-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_scores [hPre_finite_scores : Cert.Pre_finite_scores.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_scores.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite_scores.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite_scores.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_scores [hPre_finite_scores : Cert.Pre_finite_scores.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_scores.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite_scores.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite_scores.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_scores [hKernel6Ideal : Cert.Kernel6Ideal.Facts] [hPre_finite_scores : Cert.Pre_finite_scores.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_scores m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_scores [hReference6Ideal : Cert.Reference6Ideal.Facts] [hPre_finite_scores : Cert.Pre_finite_scores.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_scores m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)) (v3 : (c : Dev Cert.Kernel4Ideal.nD) → Buf (Elt Ideal) ((c.tc : Thread Cert.Kernel4Ideal.nD Cert.Kernel4Ideal.τ).loc Cert.Kernel4Ideal.main_v25_3)) (v4 : (c : Dev Cert.Kernel4Ideal.nD) → Buf (Elt Ideal) ((c.tc : Thread Cert.Kernel4Ideal.nD Cert.Kernel4Ideal.τ).loc Cert.Kernel4Ideal.main_v25_4)) (v5 : (c : Dev Cert.Kernel4Ideal.nD) → Buf (Elt Ideal) ((c.tc : Thread Cert.Kernel4Ideal.nD Cert.Kernel4Ideal.τ).loc Cert.Kernel4Ideal.main_v25_5)) (v6 : (c : Dev Cert.Kernel4Ideal.nD) → Buf (Elt Ideal) ((c.tc : Thread Cert.Kernel4Ideal.nD Cert.Kernel4Ideal.τ).loc Cert.Kernel4Ideal.main_v25_6)) (v7 : (c : Dev Cert.Kernel4Ideal.nD) → Buf (Elt Ideal) ((c.tc : Thread Cert.Kernel4Ideal.nD Cert.Kernel4Ideal.τ).loc Cert.Kernel4Ideal.main_v25_7)) (v8 : (c : Dev Cert.Kernel4Ideal.nD) → Buf (Elt Ideal) ((c.tc : Thread Cert.Kernel4Ideal.nD Cert.Kernel4Ideal.τ).loc Cert.Kernel4Ideal.main_v25_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_v25_3) = v3 c
          ∧ r.2.mem ((c.tc : Thread Cert.Kernel4Ideal.nD Cert.Kernel4Ideal.τ).loc Cert.Kernel4Ideal.main_v25_4) = v4 c
          ∧ r.2.mem ((c.tc : Thread Cert.Kernel4Ideal.nD Cert.Kernel4Ideal.τ).loc Cert.Kernel4Ideal.main_v25_5) = v5 c
          ∧ r.2.mem ((c.tc : Thread Cert.Kernel4Ideal.nD Cert.Kernel4Ideal.τ).loc Cert.Kernel4Ideal.main_v25_6) = v6 c
          ∧ r.2.mem ((c.tc : Thread Cert.Kernel4Ideal.nD Cert.Kernel4Ideal.τ).loc Cert.Kernel4Ideal.main_v25_7) = v7 c
          ∧ r.2.mem ((c.tc : Thread Cert.Kernel4Ideal.nD Cert.Kernel4Ideal.τ).loc Cert.Kernel4Ideal.main_v25_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v100) = v1 c
          ∧ r.2.mem ((c.tc : Thread Cert.Reference4Ideal.nD Cert.Reference4Ideal.τ).loc Cert.Reference4Ideal.main_v101) = v2 c
          ∧ r.2.mem ((c.tc : Thread Cert.Reference4Ideal.nD Cert.Reference4Ideal.τ).loc Cert.Reference4Ideal.main_v102) = v3 c
          ∧ r.2.mem ((c.tc : Thread Cert.Reference4Ideal.nD Cert.Reference4Ideal.τ).loc Cert.Reference4Ideal.main_v103) = v4 c
          ∧ r.2.mem ((c.tc : Thread Cert.Reference4Ideal.nD Cert.Reference4Ideal.τ).loc Cert.Reference4Ideal.main_v104) = v5 c
          ∧ r.2.mem ((c.tc : Thread Cert.Reference4Ideal.nD Cert.Reference4Ideal.τ).loc Cert.Reference4Ideal.main_v105) = v6 c
          ∧ r.2.mem ((c.tc : Thread Cert.Reference4Ideal.nD Cert.Reference4Ideal.τ).loc Cert.Reference4Ideal.main_v106) = v7 c
          ∧ r.2.mem ((c.tc : Thread Cert.Reference4Ideal.nD Cert.Reference4Ideal.τ).loc Cert.Reference4Ideal.main_v107) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_v24) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  IdealRules.named_const.Statement Cert.Kernel6Ideal.κ "log2e" .f32 0x3FB8AA3B#32 (((Real.log 2)⁻¹ : ℝ) : EReal)
  ∧ IdealRules.named_const.Statement Cert.Kernel6Ideal.κ "mask" .f32 0xF149F2CA#32 ⊥

def algebraic_Kernel6Ideal_Reference6Ideal_pre_finite_scores [hKernel6Ideal : Cert.Kernel6Ideal.Facts] [hReference6Ideal : Cert.Reference6Ideal.Facts] [hPre_finite_scores : Cert.Pre_finite_scores.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_scores m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_scores (hKernel6Ideal := hKernel6Ideal) (hPre_finite_scores := hPre_finite_scores)
    ∧ quiescent_Reference6Ideal (hReference6Ideal := hReference6Ideal)
    ∧ quiescent_Reference6Ideal_pre_finite_scores (hReference6Ideal := hReference6Ideal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_scores (hKernel6Ideal := hKernel6Ideal) (hReference6Ideal := hReference6Ideal) (hPre_finite_scores := hPre_finite_scores)
-- ==== Pre_finite.lean ====
abbrev S4x64 : Shape := ⟨2, ![4, 64]⟩
abbrev S128 : Shape := ⟨1, ![128]⟩
abbrev S4x128x16384 : Shape := ⟨3, ![4, 128, 16384]⟩
abbrev S4x16384x128 : Shape := ⟨3, ![4, 16384, 128]⟩
abbrev S4x32x128x512 : Shape := ⟨4, ![4, 32, 128, 512]⟩
abbrev S_ : Shape := ⟨0, ![]⟩

class Facts : Prop where
  bcast_S_S4x64 : S_.BroadcastsInDim S4x64 (![] : Fin 0 → Fin S4x64.rank)
  bitsLt_bf16_f32 : FTy.bits .bf16 < FTy.bits .f32
  bcast_S_S4x128x16384 : S_.BroadcastsInDim S4x128x16384 (![] : Fin 0 → Fin S4x128x16384.rank)
  bcast_S_S4x16384x128 : S_.BroadcastsInDim S4x16384x128 (![] : Fin 0 → Fin S4x16384x128.rank)
  bcast_S_S4x32x128x512 : S_.BroadcastsInDim S4x32x128x512 (![] : Fin 0 → Fin S4x32x128x512.rank)

variable [Facts]

def fn {F : FTy → Type} [FloatOps F] (main_arg0 : FVec F S4x64 .f32) (main_arg1 : FVec F S128 .f32) (main_arg2 : FVec F S4x128x16384 .bf16) (main_arg3 : FVec F S4x16384x128 .bf16) (main_arg4 : FVec F S4x32x128x512 .bf16) : IVec S4x64 1 × IVec S4x128x16384 1 × IVec S4x16384x128 1 × IVec S4x32x128x512 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S4x128x16384 .f32 := (extf .f32 · bitsLt_bf16_f32) main_arg2
  let main_v4 : FVec F S4x128x16384 .f32 := Host.absf main_v3
  let main_cst_0 : FVec F S_ .f32 := constant S_ .f32 0x7F800000#32
  let main_v5 : FVec F S4x128x16384 .f32 := broadcastInDim S4x128x16384 ![] bcast_S_S4x128x16384 main_cst_0
  let main_v6 : IVec S4x128x16384 1 := cmpf .olt main_v4 main_v5
  let main_v7 : FVec F S4x16384x128 .f32 := (extf .f32 · bitsLt_bf16_f32) main_arg3
  let main_v8 : FVec F S4x16384x128 .f32 := Host.absf main_v7
  let main_cst_1 : FVec F S_ .f32 := constant S_ .f32 0x7F800000#32
  let main_v9 : FVec F S4x16384x128 .f32 := broadcastInDim S4x16384x128 ![] bcast_S_S4x16384x128 main_cst_1
  let main_v10 : IVec S4x16384x128 1 := cmpf .olt main_v8 main_v9
  let main_v11 : FVec F S4x32x128x512 .f32 := (extf .f32 · bitsLt_bf16_f32) main_arg4
  let main_v12 : FVec F S4x32x128x512 .f32 := Host.absf main_v11
  let main_cst_2 : FVec F S_ .f32 := constant S_ .f32 0x7F800000#32
  let main_v13 : FVec F S4x32x128x512 .f32 := broadcastInDim S4x32x128x512 ![] bcast_S_S4x32x128x512 main_cst_2
  let main_v14 : IVec S4x32x128x512 1 := cmpf .olt main_v12 main_v13
  (main_v2, main_v6, main_v10, main_v14)
-- ==== Pre_finite_scores.lean ====
abbrev S8 : Shape := ⟨1, ![8]⟩
abbrev S4x128x16384 : Shape := ⟨3, ![4, 128, 16384]⟩
abbrev S16384x128 : Shape := ⟨2, ![16384, 128]⟩
abbrev S128x16384 : Shape := ⟨2, ![128, 16384]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S4x128x16384 : S_.BroadcastsInDim S4x128x16384 (![] : Fin 0 → Fin S4x128x16384.rank)
  bcast_S_S16384x128 : S_.BroadcastsInDim S16384x128 (![] : Fin 0 → Fin S16384x128.rank)

variable [Facts]

def fn {F : FTy → Type} [FloatOps F] (main_arg0 : FVec F S8 .f32) (main_arg1 : FVec F S4x128x16384 .bf16) (main_arg2 : FVec F S16384x128 .bf16) (main_arg3 : FVec F S128x16384 .bf16) : IVec S8 1 × IVec S4x128x16384 1 × IVec S16384x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S4x128x16384 .f32 := (extf .f32 · bitsLt_bf16_f32) main_arg1
  let main_v4 : FVec F S4x128x16384 .f32 := Host.absf main_v3
  let main_cst_0 : FVec F S_ .f32 := constant S_ .f32 0x7F800000#32
  let main_v5 : FVec F S4x128x16384 .f32 := broadcastInDim S4x128x16384 ![] bcast_S_S4x128x16384 main_cst_0
  let main_v6 : IVec S4x128x16384 1 := cmpf .olt main_v4 main_v5
  let main_v7 : FVec F S16384x128 .f32 := (extf .f32 · bitsLt_bf16_f32) main_arg2
  let main_v8 : FVec F S16384x128 .f32 := Host.absf main_v7
  let main_cst_1 : FVec F S_ .f32 := constant S_ .f32 0x7F800000#32
  let main_v9 : FVec F S16384x128 .f32 := broadcastInDim S16384x128 ![] bcast_S_S16384x128 main_cst_1
  let main_v10 : IVec S16384x128 1 := cmpf .olt main_v8 main_v9
  (main_v2, main_v6, main_v10)
-- ==== Kernel.lean ====
abbrev S4x64 : Shape := ⟨2, ![4, 64]⟩
abbrev S128 : Shape := ⟨1, ![128]⟩
abbrev S4x128x16384 : Shape := ⟨3, ![4, 128, 16384]⟩
abbrev S4x16384x128 : Shape := ⟨3, ![4, 16384, 128]⟩
abbrev S4x32x128x512 : Shape := ⟨4, ![4, 32, 128, 512]⟩
abbrev S128x1 : Shape := ⟨2, ![128, 1]⟩
abbrev S16384x512 : Shape := ⟨2, ![16384, 512]⟩
abbrev S1x128x256 : Shape := ⟨3, ![1, 128, 256]⟩
abbrev S1x16384x128 : Shape := ⟨3, ![1, 16384, 128]⟩
abbrev S1x32x128x512 : Shape := ⟨4, ![1, 32, 128, 512]⟩
abbrev S256x128 : Shape := ⟨2, ![256, 128]⟩
abbrev S2x144x256 : Shape := ⟨3, ![2, 144, 256]⟩
abbrev S2x512x256 : Shape := ⟨3, ![2, 512, 256]⟩
abbrev S2x128x256 : Shape := ⟨3, ![2, 128, 256]⟩
abbrev S128x256 : Shape := ⟨2, ![128, 256]⟩
abbrev S16x512 : Shape := ⟨2, ![16, 512]⟩
abbrev S1x256 : Shape := ⟨2, ![1, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S256 : Shape := ⟨1, ![256]⟩
abbrev S1x1x128x512 : Shape := ⟨4, ![1, 1, 128, 512]⟩
abbrev S128x512 : Shape := ⟨2, ![128, 512]⟩
abbrev S144x512 : Shape := ⟨2, ![144, 512]⟩
abbrev S1x144x256 : Shape := ⟨3, ![1, 144, 256]⟩
abbrev S144x256 : Shape := ⟨2, ![144, 256]⟩
abbrev S1x64 : Shape := ⟨2, ![1, 64]⟩
abbrev S1 : Shape := ⟨1, ![1]⟩
abbrev S1x1 : Shape := ⟨2, ![1, 1]⟩
abbrev S1x1x256 : Shape := ⟨3, ![1, 1, 256]⟩

abbrev nBuf : Space → Nat
  | .hbm => 7
  | .vmem => 16
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S4x128x16384, .bf16⟩
  | .hbm, ⟨3, _⟩ => ⟨S4x16384x128, .bf16⟩
  | .hbm, ⟨4, _⟩ => ⟨S4x32x128x512, .bf16⟩
  | .hbm, ⟨5, _⟩ => ⟨S128x1, .f32⟩
  | .hbm, ⟨6, _⟩ => ⟨S16384x512, .bf16⟩
  | .local _ .vmem, ⟨0, _⟩ => ⟨S4x64, .f32⟩
  | .local _ .vmem, ⟨1, _⟩ => ⟨S128x1, .f32⟩
  | .local _ .vmem, ⟨2, _⟩ => ⟨S1x128x256, .bf16⟩
  | .local _ .vmem, ⟨3, _⟩ => ⟨S1x128x256, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x32x128x512, .bf16⟩
  | .local _ .vmem, ⟨7, _⟩ => ⟨S1x32x128x512, .bf16⟩
  | .local _ .vmem, ⟨8, _⟩ => ⟨S256x128, .bf16⟩
  | .local _ .vmem, ⟨9, _⟩ => ⟨S256x128, .bf16⟩
  | .local _ .vmem, ⟨10, _⟩ => ⟨S2x144x256, .f32⟩
  | .local _ .vmem, ⟨11, _⟩ => ⟨S2x512x256, .f32⟩
  | .local _ .vmem, ⟨12, _⟩ => ⟨S2x512x256, .f32⟩
  | .local _ .vmem, ⟨13, _⟩ => ⟨S2x128x256, .bf16⟩
  | .local _ .vmem, ⟨14, _⟩ => ⟨S2x512x256, .bf16⟩
  | .local _ .vmem, ⟨15, _⟩ => ⟨S2x512x256, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x64 : Shape := ⟨2, ![4, 64]⟩
abbrev S128 : Shape := ⟨1, ![128]⟩
abbrev S4x128x16384 : Shape := ⟨3, ![4, 128, 16384]⟩
abbrev S4x16384x128 : Shape := ⟨3, ![4, 16384, 128]⟩
abbrev S4x32x128x512 : Shape := ⟨4, ![4, 32, 128, 512]⟩
abbrev S4x2x2x32x16384 : Shape := ⟨5, ![4, 2, 2, 32, 16384]⟩
abbrev S4x16384x2x2x32 : Shape := ⟨5, ![4, 16384, 2, 2, 32]⟩
abbrev S4x32x512x128 : Shape := ⟨4, ![4, 32, 512, 128]⟩
abbrev S4x2x16384x16384 : Shape := ⟨4, ![4, 2, 16384, 16384]⟩
abbrev S_ : Shape := ⟨0, ![]⟩
abbrev S4x2x16384 : Shape := ⟨3, ![4, 2, 16384]⟩
abbrev S4x2x16384x1 : Shape := ⟨4, ![4, 2, 16384, 1]⟩
abbrev S1x64 : Shape := ⟨2, ![1, 64]⟩
abbrev S64 : Shape := ⟨1, ![64]⟩
abbrev S4x1x16384x16384 : Shape := ⟨4, ![4, 1, 16384, 16384]⟩
abbrev S4x16384x16384 : Shape := ⟨3, ![4, 16384, 16384]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S16384x512 : Shape := ⟨2, ![16384, 512]⟩

abbrev nBuf : Space → Nat
  | .hbm => 80
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S4x128x16384, .bf16⟩
  | .hbm, ⟨3, _⟩ => ⟨S4x16384x128, .bf16⟩
  | .hbm, ⟨4, _⟩ => ⟨S4x32x128x512, .bf16⟩
  | .hbm, ⟨5, _⟩ => ⟨S4x128x16384, .f32⟩
  | .hbm, ⟨6, _⟩ => ⟨S4x2x2x32x16384, .f32⟩
  | .hbm, ⟨7, _⟩ => ⟨S4x16384x128, .f32⟩
  | .hbm, ⟨8, _⟩ => ⟨S4x16384x2x2x32, .f32⟩
  | .hbm, ⟨9, _⟩ => ⟨S4x32x128x512, .f32⟩
  | .hbm, ⟨10, _⟩ => ⟨S4x32x512x128, .f32⟩
  | .hbm, ⟨11, _⟩ => ⟨S4x16384x128, .f32⟩
  | .hbm, ⟨12, _⟩ => ⟨S4x2x16384x16384, .f32⟩
  | .hbm, ⟨13, _⟩ => ⟨S_, .f32⟩
  | .hbm, ⟨14, _⟩ => ⟨S_, .f32⟩
  | .hbm, ⟨15, _⟩ => ⟨S4x2x16384x16384, .f32⟩
  | .hbm, ⟨16, _⟩ => ⟨S4x2x16384x16384, .f32⟩
  | .hbm, ⟨17, _⟩ => ⟨S_, .f32⟩
  | .hbm, ⟨18, _⟩ => ⟨S4x2x16384, .f32⟩
  | .hbm, ⟨19, _⟩ => ⟨S_, .f32⟩
  | .hbm, ⟨20, _⟩ => ⟨S4x2x16384, .f32⟩
  | .hbm, ⟨21, _⟩ => ⟨S4x2x16384, .f32⟩
  | .hbm, ⟨22, _⟩ => ⟨S4x2x16384x1, .f32⟩
  | .hbm, ⟨23, _⟩ => ⟨S4x2x16384x16384, .f32⟩
  | .hbm, ⟨24, _⟩ => ⟨S4x2x16384x16384, .f32⟩
  | .hbm, ⟨25, _⟩ => ⟨S4x2x16384x16384, .f32⟩
  | .hbm, ⟨26, _⟩ => ⟨S_, .f32⟩
  | .hbm, ⟨27, _⟩ => ⟨S4x2x16384, .f32⟩
  | .hbm, ⟨28, _⟩ => ⟨S4x2x16384x1, .f32⟩
  | .hbm, ⟨29, _⟩ => ⟨S4x2x16384x16384, .f32⟩
  | .hbm, ⟨30, _⟩ => ⟨S4x2x16384x16384, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4x1x16384x16384, .f32⟩
  | .hbm, ⟨51, _⟩ => ⟨S4x16384x16384, .f32⟩
  | .hbm, ⟨52, _⟩ => ⟨S4x1x16384x16384, .f32⟩
  | .hbm, ⟨53, _⟩ => ⟨S4x16384x16384, .f32⟩
  | .hbm, ⟨54, _⟩ => ⟨S4x16384x16384, .f32⟩
  | .hbm, ⟨55, _⟩ => ⟨S4x16384x16384, .f32⟩
  | .hbm, ⟨56, _⟩ => ⟨S4x16384x16384, .f32⟩
  | .hbm, ⟨57, _⟩ => ⟨S4x128x16384, .f32⟩
  | .hbm, ⟨58, _⟩ => ⟨S16384x4x128, .f32⟩
  | .hbm, ⟨59, _⟩ => ⟨S16384x4x128, .f32⟩
  | .hbm, ⟨60, _⟩ => ⟨S_, .f32⟩
  | .hbm, ⟨61, _⟩ => ⟨S16384x4, .f32⟩
  | .hbm, ⟨62, _⟩ => ⟨S16384x4x1, .f32⟩
  | .hbm, ⟨63, _⟩ => ⟨S_, .f32⟩
  | .hbm, ⟨64, _⟩ => ⟨S16384x4x1, .f32⟩
  | .hbm, ⟨65, _⟩ => ⟨S16384x4x1, .f32⟩
  | .hbm, ⟨66, _⟩ => ⟨S_, .f32⟩
  | .hbm, ⟨67, _⟩ => ⟨S16384x4x1, .f32⟩
  | .hbm, ⟨68, _⟩ => ⟨S16384x4x1, .f32⟩
  | .hbm, ⟨69, _⟩ => ⟨S16384x4x1, .f32⟩
  | .hbm, ⟨70, _⟩ => ⟨S16384x4x128, .f32⟩
  | .hbm, ⟨71, _⟩ => ⟨S16384x4x128, .f32⟩
  | .hbm, ⟨72, _⟩ => ⟨S1x1x128, .f32⟩
  | .hbm, ⟨73, _⟩ => ⟨S16384x4x128, .f32⟩
  | .hbm, ⟨74, _⟩ => ⟨S16384x4x128, .f32⟩
  | .hbm, ⟨75, _⟩ => ⟨S_, .f32⟩
  | .hbm, ⟨76, _⟩ => ⟨S16384x4x128, .f32⟩
  | .hbm, ⟨77, _⟩ => ⟨S16384x4x128, .f32⟩
  | .hbm, ⟨78, _⟩ => ⟨S16384x512, .f32⟩
  | .hbm, ⟨79, _⟩ => ⟨S16384x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel2.lean ====
abbrev S16384x1024 : Shape := ⟨2, ![16384, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S8x1024 : Shape := ⟨2, ![8, 1024]⟩
abbrev S528x1024 : Shape := ⟨2, ![528, 1024]⟩
abbrev S1024x2816 : Shape := ⟨2, ![1024, 2816]⟩
abbrev S528x2816 : Shape := ⟨2, ![528, 2816]⟩
abbrev S3x2816 : Shape := ⟨2, ![3, 2816]⟩
abbrev S1x2816 : Shape := ⟨2, ![1, 2816]⟩
abbrev S512x2816 : Shape := ⟨2, ![512, 2816]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x5632, .bf16⟩
  | .local _ .vmem, ⟨7, _⟩ => ⟨S3x5632, .f32⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S528x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S16384x5632 : Shape := ⟨2, ![16384, 5632]⟩
abbrev S_ : Shape := ⟨0, ![]⟩
abbrev S16386x5632 : Shape := ⟨2, ![16386, 5632]⟩
abbrev S1x5632 : Shape := ⟨2, ![1, 5632]⟩
abbrev S5632 : Shape := ⟨1, ![5632]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x5632, .f32⟩
  | .hbm, ⟨7, _⟩ => ⟨S_, .i32⟩
  | .hbm, ⟨8, _⟩ => ⟨S_, .f32⟩
  | .hbm, ⟨9, _⟩ => ⟨S16386x5632, .f32⟩
  | .hbm, ⟨10, _⟩ => ⟨S1x5632, .f32⟩
  | .hbm, ⟨11, _⟩ => ⟨S5632, .f32⟩
  | .hbm, ⟨12, _⟩ => ⟨S16384x5632, .f32⟩
  | .hbm, ⟨13, _⟩ => ⟨S1x5632, .f32⟩
  | .hbm, ⟨14, _⟩ => ⟨S16384x5632, .f32⟩
  | .hbm, ⟨15, _⟩ => ⟨S16384x5632, .f32⟩
  | .hbm, ⟨16, _⟩ => ⟨S1x5632, .f32⟩
  | .hbm, ⟨17, _⟩ => ⟨S5632, .f32⟩
  | .hbm, ⟨18, _⟩ => ⟨S16384x5632, .f32⟩
  | .hbm, ⟨19, _⟩ => ⟨S1x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S1x5632, .f32⟩
  | .hbm, ⟨24, _⟩ => ⟨S5632, .f32⟩
  | .hbm, ⟨25, _⟩ => ⟨S16384x5632, .f32⟩
  | .hbm, ⟨26, _⟩ => ⟨S1x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S3x512 : Shape := ⟨2, ![3, 512]⟩
abbrev S1024x3072 : Shape := ⟨2, ![1024, 3072]⟩
abbrev S3072 : Shape := ⟨1, ![3072]⟩
abbrev S3x512x1024 : Shape := ⟨3, ![3, 512, 1024]⟩
abbrev S1024x1024 : Shape := ⟨2, ![1024, 1024]⟩
abbrev S1024 : Shape := ⟨1, ![1024]⟩
abbrev S1x3072 : Shape := ⟨2, ![1, 3072]⟩
abbrev S1x1024 : Shape := ⟨2, ![1, 1024]⟩
abbrev S512x1024 : Shape := ⟨2, ![512, 1024]⟩
abbrev S512x512 : Shape := ⟨2, ![512, 512]⟩
abbrev S8x512 : Shape := ⟨2, ![8, 512]⟩
abbrev S1x512 : Shape := ⟨2, ![1, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 19
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S3x512, .f32⟩
  | .hbm, ⟨6, _⟩ => ⟨S1024x3072, .f32⟩
  | .hbm, ⟨7, _⟩ => ⟨S3072, .f32⟩
  | .hbm, ⟨8, _⟩ => ⟨S3x512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x3072, .bf16⟩
  | .hbm, ⟨13, _⟩ => ⟨S3x512x1024, .bf16⟩
  | .hbm, ⟨14, _⟩ => ⟨S1024x1024, .bf16⟩
  | .hbm, ⟨15, _⟩ => ⟨S1x3072, .f32⟩
  | .hbm, ⟨16, _⟩ => ⟨S1x1024, .f32⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S8x512, .bf16⟩
  | .local _ .vmem, ⟨5, _⟩ => ⟨S8x512, .bf16⟩
  | .local _ .vmem, ⟨6, _⟩ => ⟨S8x512, .bf16⟩
  | .local _ .vmem, ⟨7, _⟩ => ⟨S8x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S3x512, .f32⟩
  | .local _ .vmem, ⟨15, _⟩ => ⟨S1024x3072, .bf16⟩
  | .local _ .vmem, ⟨16, _⟩ => ⟨S1x3072, .f32⟩
  | .local _ .vmem, ⟨17, _⟩ => ⟨S3x512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16384x1024 : Shape := ⟨2, ![16384, 1024]⟩
abbrev S16384x512 : Shape := ⟨2, ![16384, 512]⟩
abbrev S3x512 : Shape := ⟨2, ![3, 512]⟩
abbrev S1024x3072 : Shape := ⟨2, ![1024, 3072]⟩
abbrev S3072 : Shape := ⟨1, ![3072]⟩
abbrev S3x512x1024 : Shape := ⟨3, ![3, 512, 1024]⟩
abbrev S1024x1024 : Shape := ⟨2, ![1024, 1024]⟩
abbrev S1024 : Shape := ⟨1, ![1024]⟩
abbrev S_ : Shape := ⟨0, ![]⟩
abbrev S16386x512 : Shape := ⟨2, ![16386, 512]⟩
abbrev S1x512 : Shape := ⟨2, ![1, 512]⟩
abbrev S512 : Shape := ⟨1, ![512]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x3x1024 : Shape := ⟨3, ![16384, 3, 1024]⟩
abbrev S16384x3072 : Shape := ⟨2, ![16384, 3072]⟩
abbrev S1x3072 : Shape := ⟨2, ![1, 3072]⟩
abbrev S16384 : Shape := ⟨1, ![16384]⟩
abbrev S16384x1 : Shape := ⟨2, ![16384, 1]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S3x512, .f32⟩
  | .hbm, ⟨6, _⟩ => ⟨S1024x3072, .f32⟩
  | .hbm, ⟨7, _⟩ => ⟨S3072, .f32⟩
  | .hbm, ⟨8, _⟩ => ⟨S3x512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S16384x512, .f32⟩
  | .hbm, ⟨13, _⟩ => ⟨S16384x512, .f32⟩
  | .hbm, ⟨14, _⟩ => ⟨S_, .i32⟩
  | .hbm, ⟨15, _⟩ => ⟨S_, .f32⟩
  | .hbm, ⟨16, _⟩ => ⟨S16386x512, .f32⟩
  | .hbm, ⟨17, _⟩ => ⟨S1x512, .f32⟩
  | .hbm, ⟨18, _⟩ => ⟨S512, .f32⟩
  | .hbm, ⟨19, _⟩ => ⟨S16384x512, .f32⟩
  | .hbm, ⟨20, _⟩ => ⟨S1x512, .f32⟩
  | .hbm, ⟨21, _⟩ => ⟨S16384x512, .f32⟩
  | .hbm, ⟨22, _⟩ => ⟨S16384x512, .f32⟩
  | .hbm, ⟨23, _⟩ => ⟨S1x512, .f32⟩
  | .hbm, ⟨24, _⟩ => ⟨S512, .f32⟩
  | .hbm, ⟨25, _⟩ => ⟨S16384x512, .f32⟩
  | .hbm, ⟨26, _⟩ => ⟨S1x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S1x512, .f32⟩
  | .hbm, ⟨31, _⟩ => ⟨S512, .f32⟩
  | .hbm, ⟨32, _⟩ => ⟨S16384x512, .f32⟩
  | .hbm, ⟨33, _⟩ => ⟨S1x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x1x512, .f32⟩
  | .hbm, ⟨41, _⟩ => ⟨S16384x1x512, .f32⟩
  | .hbm, ⟨42, _⟩ => ⟨S16384x1x512, .f32⟩
  | .hbm, ⟨43, _⟩ => ⟨S16384x3x512, .f32⟩
  | .hbm, ⟨44, _⟩ => ⟨S3x1024x16384, .f32⟩
  | .hbm, ⟨45, _⟩ => ⟨S16384x3x1024, .f32⟩
  | .hbm, ⟨46, _⟩ => ⟨S16384x3072, .f32⟩
  | .hbm, ⟨47, _⟩ => ⟨S1x3072, .f32⟩
  | .hbm, ⟨48, _⟩ => ⟨S16384x3072, .f32⟩
  | .hbm, ⟨49, _⟩ => ⟨S16384x3072, .f32⟩
  | .hbm, ⟨50, _⟩ => ⟨S16384x3072, .f32⟩
  | .hbm, ⟨51, _⟩ => ⟨S16384x3072, .f32⟩
  | .hbm, ⟨52, _⟩ => ⟨S_, .f32⟩
  | .hbm, ⟨53, _⟩ => ⟨S16384x3072, .f32⟩
  | .hbm, ⟨54, _⟩ => ⟨S16384x3072, .f32⟩
  | .hbm, ⟨55, _⟩ => ⟨S_, .f32⟩
  | .hbm, ⟨56, _⟩ => ⟨S16384x3072, .f32⟩
  | .hbm, ⟨57, _⟩ => ⟨S16384x3072, .f32⟩
  | .hbm, ⟨58, _⟩ => ⟨S16384x3x1024, .f32⟩
  | .hbm, ⟨59, _⟩ => ⟨S16384x3x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S1x1024, .f32⟩
  | .hbm, ⟨91, _⟩ => ⟨S16384x1024, .f32⟩
  | .hbm, ⟨92, _⟩ => ⟨S16384x1024, .f32⟩
  | .hbm, ⟨93, _⟩ => ⟨S1x1024, .f32⟩
  | .hbm, ⟨94, _⟩ => ⟨S16384x1024, .f32⟩
  | .hbm, ⟨95, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_cst_0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_1 : Ref sig .tc := ⟨.hbm, 60, rfl⟩
abbrev main_v44 : Ref sig .tc := ⟨.hbm, 61, rfl⟩
abbrev main_v45 : Ref sig .tc := ⟨.hbm, 62, rfl⟩
abbrev main_cst_2 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3840 : Shape := ⟨2, ![1024, 3840]⟩
abbrev S16384x128 : Shape := ⟨2, ![16384, 128]⟩
abbrev S128x16384 : Shape := ⟨2, ![128, 16384]⟩
abbrev S1024x512 : Shape := ⟨2, ![1024, 512]⟩
abbrev S1024x128 : Shape := ⟨2, ![1024, 128]⟩
abbrev S1024x2x4x2x32 : Shape := ⟨5, ![1024, 2, 4, 2, 32]⟩
abbrev S1024x4x2x2x32 : Shape := ⟨5, ![1024, 4, 2, 2, 32]⟩
abbrev S1024x2x2x32 : Shape := ⟨4, ![1024, 2, 2, 32]⟩
abbrev S1024x1536 : Shape := ⟨2, ![1024, 1536]⟩
abbrev S1024x2176 : Shape := ⟨2, ![1024, 2176]⟩
abbrev S1024x1664 : Shape := ⟨2, ![1024, 1664]⟩
abbrev S1664x1024 : Shape := ⟨2, ![1664, 1024]⟩
abbrev S1x1024 : Shape := ⟨2, ![1, 1024]⟩
abbrev S16384x512 : Shape := ⟨2, ![16384, 512]⟩
abbrev S4x16384x128 : Shape := ⟨3, ![4, 16384, 128]⟩
abbrev S4x128x16384 : Shape := ⟨3, ![4, 128, 16384]⟩
abbrev S4x32x128x512 : Shape := ⟨4, ![4, 32, 128, 512]⟩
abbrev S512x1024 : Shape := ⟨2, ![512, 1024]⟩
abbrev S512x128 : Shape := ⟨2, ![512, 128]⟩
abbrev S128x512 : Shape := ⟨2, ![128, 512]⟩
abbrev S512x512 : Shape := ⟨2, ![512, 512]⟩
abbrev S4x512x128 : Shape := ⟨3, ![4, 512, 128]⟩
abbrev S4x128x512 : Shape := ⟨3, ![4, 128, 512]⟩
abbrev S4x1x128x512 : Shape := ⟨4, ![4, 1, 128, 512]⟩
abbrev S512 : Shape := ⟨1, ![512]⟩
abbrev S512x1 : Shape := ⟨2, ![512, 1]⟩
abbrev S1664x512 : Shape := ⟨2, ![1664, 512]⟩
abbrev S1024x256 : Shape := ⟨2, ![1024, 256]⟩
abbrev S512x256 : Shape := ⟨2, ![512, 256]⟩
abbrev S1x512x128 : Shape := ⟨3, ![1, 512, 128]⟩
abbrev S64x512 : Shape := ⟨2, ![64, 512]⟩
abbrev S1x128x512 : Shape := ⟨3, ![1, 128, 512]⟩
abbrev S1x1x128x512 : Shape := ⟨4, ![1, 1, 128, 512]⟩

abbrev nBuf : Space → Nat
  | .hbm => 42
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x3840, .f32⟩
  | .hbm, ⟨4, _⟩ => ⟨S16384x128, .f32⟩
  | .hbm, ⟨5, _⟩ => ⟨S16384x128, .f32⟩
  | .hbm, ⟨6, _⟩ => ⟨S128x16384, .f32⟩
  | .hbm, ⟨7, _⟩ => ⟨S128x16384, .f32⟩
  | .hbm, ⟨8, _⟩ => ⟨S1024x3840, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x128, .bf16⟩
  | .hbm, ⟨14, _⟩ => ⟨S1024x128, .bf16⟩
  | .hbm, ⟨15, _⟩ => ⟨S1024x2x4x2x32, .bf16⟩
  | .hbm, ⟨16, _⟩ => ⟨S1024x4x2x2x32, .bf16⟩
  | .hbm, ⟨17, _⟩ => ⟨S1024x512, .bf16⟩
  | .hbm, ⟨18, _⟩ => ⟨S1024x2x2x32, .bf16⟩
  | .hbm, ⟨19, _⟩ => ⟨S1024x2x2x32, .bf16⟩
  | .hbm, ⟨20, _⟩ => ⟨S1024x128, .bf16⟩
  | .hbm, ⟨21, _⟩ => ⟨S1024x1536, .bf16⟩
  | .hbm, ⟨22, _⟩ => ⟨S1024x4x2x2x32, .bf16⟩
  | .hbm, ⟨23, _⟩ => ⟨S1024x4x2x2x32, .bf16⟩
  | .hbm, ⟨24, _⟩ => ⟨S1024x512, .bf16⟩
  | .hbm, ⟨25, _⟩ => ⟨S1024x2176, .bf16⟩
  | .hbm, ⟨26, _⟩ => ⟨S1024x4x2x2x32, .bf16⟩
  | .hbm, ⟨27, _⟩ => ⟨S1024x4x2x2x32, .bf16⟩
  | .hbm, ⟨28, _⟩ => ⟨S1024x512, .bf16⟩
  | .hbm, ⟨29, _⟩ => ⟨S1024x1664, .bf16⟩
  | .hbm, ⟨30, _⟩ => ⟨S1664x1024, .bf16⟩
  | .hbm, ⟨31, _⟩ => ⟨S1x1024, .f32⟩
  | .hbm, ⟨32, _⟩ => ⟨S1x1024, .f32⟩
  | .hbm, ⟨33, _⟩ => ⟨S16384x1024, .f32⟩
  | .hbm, ⟨34, _⟩ => ⟨S16384x512, .bf16⟩
  | .hbm, ⟨35, _⟩ => ⟨S16384x512, .bf16⟩
  | .hbm, ⟨36, _⟩ => ⟨S4x16384x128, .bf16⟩
  | .hbm, ⟨37, _⟩ => ⟨S16384x128, .bf16⟩
  | .hbm, ⟨38, _⟩ => ⟨S4x128x16384, .bf16⟩
  | .hbm, ⟨39, _⟩ => ⟨S4x32x128x512, .bf16⟩
  | .hbm, ⟨40, _⟩ => ⟨S4x128x16384, .bf16⟩
  | .hbm, ⟨41, _⟩ => ⟨S128x16384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2176, .bf16⟩
  | .local _ .vmem, ⟨5, _⟩ => ⟨S1664x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S512x1024, .f32⟩
  | .local _ .vmem, ⟨15, _⟩ => ⟨S512x1024, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S4x512x128, .bf16⟩
  | .local _ .vmem, ⟨21, _⟩ => ⟨S4x512x128, .bf16⟩
  | .local _ .vmem, ⟨22, _⟩ => ⟨S512x128, .bf16⟩
  | .local _ .vmem, ⟨23, _⟩ => ⟨S512x128, .bf16⟩
  | .local _ .vmem, ⟨24, _⟩ => ⟨S4x128x512, .bf16⟩
  | .local _ .vmem, ⟨25, _⟩ => ⟨S4x128x512, .bf16⟩
  | .local _ .vmem, ⟨26, _⟩ => ⟨S4x1x128x512, .bf16⟩
  | .local _ .vmem, ⟨27, _⟩ => ⟨S4x1x128x512, .bf16⟩
  | .local _ .vmem, ⟨28, _⟩ => ⟨S4x128x512, .bf16⟩
  | .local _ .vmem, ⟨29, _⟩ => ⟨S4x128x512, .bf16⟩
  | .local _ .vmem, ⟨30, _⟩ => ⟨S128x512, .bf16⟩
  | .local _ .vmem, ⟨31, _⟩ => ⟨S128x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev main_v25_6 : Ref sig .tc := ⟨.hbm, 39, rfl⟩
abbrev main_v25_7 : Ref sig .tc := ⟨.hbm, 40, rfl⟩
abbrev main_v25_8 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1664x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S16384x1024 : Shape := ⟨2, ![16384, 1024]⟩
abbrev S1024 : Shape := ⟨1, ![1024]⟩
abbrev S1024x3840 : Shape := ⟨2, ![1024, 3840]⟩
abbrev S16384x128 : Shape := ⟨2, ![16384, 128]⟩
abbrev S128x16384 : Shape := ⟨2, ![128, 16384]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3840 : Shape := ⟨2, ![16384, 3840]⟩
abbrev S16384x512 : Shape := ⟨2, ![16384, 512]⟩
abbrev S16384x4x2x2x32 : Shape := ⟨5, ![16384, 4, 2, 2, 32]⟩
abbrev S16384x4x128 : Shape := ⟨3, ![16384, 4, 128]⟩
abbrev S16384x2x4x2x32 : Shape := ⟨5, ![16384, 2, 4, 2, 32]⟩
abbrev S16384x2x2x32 : Shape := ⟨4, ![16384, 2, 2, 32]⟩
abbrev S16384x1x128 : Shape := ⟨3, ![16384, 1, 128]⟩
abbrev S16384x4x64 : Shape := ⟨3, ![16384, 4, 64]⟩
abbrev S4x16384x128 : Shape := ⟨3, ![4, 16384, 128]⟩
abbrev S16384x1x64 : Shape := ⟨3, ![16384, 1, 64]⟩
abbrev S4x128x16384 : Shape := ⟨3, ![4, 128, 16384]⟩
abbrev S32x512x4x128 : Shape := ⟨4, ![32, 512, 4, 128]⟩
abbrev S4x32x128x512 : Shape := ⟨4, ![4, 32, 128, 512]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x3840, .f32⟩
  | .hbm, ⟨4, _⟩ => ⟨S16384x128, .f32⟩
  | .hbm, ⟨5, _⟩ => ⟨S16384x128, .f32⟩
  | .hbm, ⟨6, _⟩ => ⟨S128x16384, .f32⟩
  | .hbm, ⟨7, _⟩ => ⟨S128x16384, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x3840, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x128, .f32⟩
  | .hbm, ⟨46, _⟩ => ⟨S16384x128, .f32⟩
  | .hbm, ⟨47, _⟩ => ⟨S16384x4x2x2x32, .f32⟩
  | .hbm, ⟨48, _⟩ => ⟨S16384x4x2x2x32, .f32⟩
  | .hbm, ⟨49, _⟩ => ⟨S16384x4x128, .f32⟩
  | .hbm, ⟨50, _⟩ => ⟨S16384x4x2x2x32, .f32⟩
  | .hbm, ⟨51, _⟩ => ⟨S16384x4x2x2x32, .f32⟩
  | .hbm, ⟨52, _⟩ => ⟨S16384x4x128, .f32⟩
  | .hbm, ⟨53, _⟩ => ⟨S16384x2x4x2x32, .f32⟩
  | .hbm, ⟨54, _⟩ => ⟨S16384x4x2x2x32, .f32⟩
  | .hbm, ⟨55, _⟩ => ⟨S16384x4x128, .f32⟩
  | .hbm, ⟨56, _⟩ => ⟨S16384x2x2x32, .f32⟩
  | .hbm, ⟨57, _⟩ => ⟨S16384x2x2x32, .f32⟩
  | .hbm, ⟨58, _⟩ => ⟨S16384x1x128, .f32⟩
  | .hbm, ⟨59, _⟩ => ⟨S16384x512, .f32⟩
  | .hbm, ⟨60, _⟩ => ⟨S16384x4x64, .f32⟩
  | .hbm, ⟨61, _⟩ => ⟨S16384x4x64, .f32⟩
  | .hbm, ⟨62, _⟩ => ⟨S16384x1x128, .f32⟩
  | .hbm, ⟨63, _⟩ => ⟨S16384x4x128, .f32⟩
  | .hbm, ⟨64, _⟩ => ⟨S16384x4x128, .f32⟩
  | .hbm, ⟨65, _⟩ => ⟨S16384x4x128, .f32⟩
  | .hbm, ⟨66, _⟩ => ⟨S16384x1x128, .f32⟩
  | .hbm, ⟨67, _⟩ => ⟨S16384x4x128, .f32⟩
  | .hbm, ⟨68, _⟩ => ⟨S16384x4x128, .f32⟩
  | .hbm, ⟨69, _⟩ => ⟨S16384x4x128, .f32⟩
  | .hbm, ⟨70, _⟩ => ⟨S4x16384x128, .f32⟩
  | .hbm, ⟨71, _⟩ => ⟨S16384x1x64, .f32⟩
  | .hbm, ⟨72, _⟩ => ⟨S16384x1x64, .f32⟩
  | .hbm, ⟨73, _⟩ => ⟨S16384x1x128, .f32⟩
  | .hbm, ⟨74, _⟩ => ⟨S16384x1x128, .f32⟩
  | .hbm, ⟨75, _⟩ => ⟨S16384x1x128, .f32⟩
  | .hbm, ⟨76, _⟩ => ⟨S16384x1x128, .f32⟩
  | .hbm, ⟨77, _⟩ => ⟨S16384x1x128, .f32⟩
  | .hbm, ⟨78, _⟩ => ⟨S16384x1x128, .f32⟩
  | .hbm, ⟨79, _⟩ => ⟨S16384x128, .f32⟩
  | .hbm, ⟨80, _⟩ => ⟨S16384x128, .f32⟩
  | .hbm, ⟨81, _⟩ => ⟨S16384x128, .f32⟩
  | .hbm, ⟨82, _⟩ => ⟨S16384x4x64, .f32⟩
  | .hbm, ⟨83, _⟩ => ⟨S16384x4x64, .f32⟩
  | .hbm, ⟨84, _⟩ => ⟨S16384x1x128, .f32⟩
  | .hbm, ⟨85, _⟩ => ⟨S16384x4x128, .f32⟩
  | .hbm, ⟨86, _⟩ => ⟨S16384x4x128, .f32⟩
  | .hbm, ⟨87, _⟩ => ⟨S16384x4x128, .f32⟩
  | .hbm, ⟨88, _⟩ => ⟨S16384x1x128, .f32⟩
  | .hbm, ⟨89, _⟩ => ⟨S16384x4x128, .f32⟩
  | .hbm, ⟨90, _⟩ => ⟨S16384x4x128, .f32⟩
  | .hbm, ⟨91, _⟩ => ⟨S16384x4x128, .f32⟩
  | .hbm, ⟨92, _⟩ => ⟨S_, .f32⟩
  | .hbm, ⟨93, _⟩ => ⟨S16384x4x128, .f32⟩
  | .hbm, ⟨94, _⟩ => ⟨S16384x4x128, .f32⟩
  | .hbm, ⟨95, _⟩ => ⟨S4x128x16384, .f32⟩
  | .hbm, ⟨96, _⟩ => ⟨S32x512x4x128, .f32⟩
  | .hbm, ⟨97, _⟩ => ⟨S4x32x128x512, .f32⟩
  | .hbm, ⟨98, _⟩ => ⟨S16384x128, .f32⟩
  | .hbm, ⟨99, _⟩ => ⟨S16384x128, .f32⟩
  | .hbm, ⟨100, _⟩ => ⟨S16384x4x64, .f32⟩
  | .hbm, ⟨101, _⟩ => ⟨S16384x4x64, .f32⟩
  | .hbm, ⟨102, _⟩ => ⟨S16384x1x128, .f32⟩
  | .hbm, ⟨103, _⟩ => ⟨S16384x4x128, .f32⟩
  | .hbm, ⟨104, _⟩ => ⟨S16384x4x128, .f32⟩
  | .hbm, ⟨105, _⟩ => ⟨S16384x4x128, .f32⟩
  | .hbm, ⟨106, _⟩ => ⟨S16384x1x128, .f32⟩
  | .hbm, ⟨107, _⟩ => ⟨S16384x4x128, .f32⟩
  | .hbm, ⟨108, _⟩ => ⟨S16384x4x128, .f32⟩
  | .hbm, ⟨109, _⟩ => ⟨S16384x4x128, .f32⟩
  | .hbm, ⟨110, _⟩ => ⟨S_, .f32⟩
  | .hbm, ⟨111, _⟩ => ⟨S16384x4x128, .f32⟩
  | .hbm, ⟨112, _⟩ => ⟨S16384x4x128, .f32⟩
  | .hbm, ⟨113, _⟩ => ⟨S4x128x16384, .f32⟩
  | .hbm, ⟨114, _⟩ => ⟨S128x16384, .f32⟩
  | .hbm, ⟨115, _⟩ => ⟨S16384x512, .bf16⟩
  | .hbm, ⟨116, _⟩ => ⟨S16384x512, .bf16⟩
  | .hbm, ⟨117, _⟩ => ⟨S4x16384x128, .bf16⟩
  | .hbm, ⟨118, _⟩ => ⟨S16384x128, .bf16⟩
  | .hbm, ⟨119, _⟩ => ⟨S4x128x16384, .bf16⟩
  | .hbm, ⟨120, _⟩ => ⟨S4x32x128x512, .bf16⟩
  | .hbm, ⟨121, _⟩ => ⟨S4x128x16384, .bf16⟩
  | .hbm, ⟨122, _⟩ => ⟨S128x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_4 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_5 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩

abbrev nD : Nat := 1
abbrev τ : Topo := Topo.v7x

variable {F : FTy → Type} [FloatOps F]
-- ==== Kernel5.lean ====
abbrev S16384 : Shape := ⟨1, ![16384]⟩
abbrev S32 : Shape := ⟨1, ![32]⟩
abbrev S_ : Shape := ⟨0, ![]⟩
abbrev S1x16384 : Shape := ⟨2, ![1, 16384]⟩
abbrev S32x1 : Shape := ⟨2, ![32, 1]⟩
abbrev S16384x128 : Shape := ⟨2, ![16384, 128]⟩
abbrev S128x16384 : Shape := ⟨2, ![128, 16384]⟩
abbrev S1x512 : Shape := ⟨2, ![1, 512]⟩
abbrev S512x128 : Shape := ⟨2, ![512, 128]⟩
abbrev S128x512 : Shape := ⟨2, ![128, 512]⟩
abbrev S32x512 : Shape := ⟨2, ![32, 512]⟩

abbrev nBuf : Space → Nat
  | .hbm => 23
  | .vmem => 11
  | .smem => 0
  | _ => 0

abbrev bufTy : (tb : Table) → Fin (tcTables nBuf tb) → BufTy
  | .hbm, ⟨0, _⟩ => ⟨S16384, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S1x16384, .i32⟩
  | .hbm, ⟨18, _⟩ => ⟨S32x1, .f32⟩
  | .hbm, ⟨19, _⟩ => ⟨S16384x128, .f32⟩
  | .hbm, ⟨20, _⟩ => ⟨S16384x128, .f32⟩
  | .hbm, ⟨21, _⟩ => ⟨S128x16384, .f32⟩
  | .hbm, ⟨22, _⟩ => ⟨S128x16384, .f32⟩
  | .local _ .vmem, ⟨0, _⟩ => ⟨S1x512, .i32⟩
  | .local _ .vmem, ⟨1, _⟩ => ⟨S1x512, .i32⟩
  | .local _ .vmem, ⟨2, _⟩ => ⟨S32x1, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S128x16384 : Shape := ⟨2, ![128, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S16384, .f32⟩
  | .hbm, ⟨18, _⟩ => ⟨S16384x1, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x128, .f32⟩
  | .hbm, ⟨26, _⟩ => ⟨S16384x32, .f32⟩
  | .hbm, ⟨27, _⟩ => ⟨S16384x32, .f32⟩
  | .hbm, ⟨28, _⟩ => ⟨S16384x128, .f32⟩
  | .hbm, ⟨29, _⟩ => ⟨S128x16384, .f32⟩
  | .hbm, ⟨30, _⟩ => ⟨S128x16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel6.lean ====
abbrev S8 : Shape := ⟨1, ![8]⟩
abbrev S4x128x16384 : Shape := ⟨3, ![4, 128, 16384]⟩
abbrev S16384x128 : Shape := ⟨2, ![16384, 128]⟩
abbrev S128x16384 : Shape := ⟨2, ![128, 16384]⟩
abbrev S1x8 : Shape := ⟨2, ![1, 8]⟩
abbrev S16384x512 : Shape := ⟨2, ![16384, 512]⟩
abbrev S4x128x256 : Shape := ⟨3, ![4, 128, 256]⟩
abbrev S128x128 : Shape := ⟨2, ![128, 128]⟩
abbrev S256x128 : Shape := ⟨2, ![256, 128]⟩
abbrev S128x256 : Shape := ⟨2, ![128, 256]⟩
abbrev S256x512 : Shape := ⟨2, ![256, 512]⟩
abbrev S512x128 : Shape := ⟨2, ![512, 128]⟩
abbrev S128x512 : Shape := ⟨2, ![128, 512]⟩
abbrev S512x256 : Shape := ⟨2, ![512, 256]⟩
abbrev S16x512 : Shape := ⟨2, ![16, 512]⟩
abbrev S64x512 : Shape := ⟨2, ![64, 512]⟩
abbrev S80x512 : Shape := ⟨2, ![80, 512]⟩
abbrev S1x128x256 : Shape := ⟨3, ![1, 128, 256]⟩
abbrev S1x1 : Shape := ⟨2, ![1, 1]⟩
abbrev S256 : Shape := ⟨1, ![256]⟩
abbrev S1x256 : Shape := ⟨2, ![1, 256]⟩
abbrev S80x256 : Shape := ⟨2, ![80, 256]⟩
abbrev S64x256 : Shape := ⟨2, ![64, 256]⟩

abbrev nBuf : Space → Nat
  | .hbm => 6
  | .vmem => 17
  | .smem => 0
  | _ => 0

abbrev bufTy : (tb : Table) → Fin (tcTables nBuf tb) → BufTy
  | .hbm, ⟨0, _⟩ => ⟨S8, .f32⟩
  | .hbm, ⟨1, _⟩ => ⟨S4x128x16384, .bf16⟩
  | .hbm, ⟨2, _⟩ => ⟨S16384x128, .bf16⟩
  | .hbm, ⟨3, _⟩ => ⟨S128x16384, .bf16⟩
  | .hbm, ⟨4, _⟩ => ⟨S1x8, .f32⟩
  | .hbm, ⟨5, _⟩ => ⟨S16384x512, .bf16⟩
  | .local _ .vmem, ⟨0, _⟩ => ⟨S1x8, .f32⟩
  | .local _ .vmem, ⟨1, _⟩ => ⟨S4x128x256, .bf16⟩
  | .local _ .vmem, ⟨2, _⟩ => ⟨S4x128x256, .bf16⟩
  | .local _ .vmem, ⟨3, _⟩ => ⟨S128x128, .bf16⟩
  | .local _ .vmem, ⟨4, _⟩ => ⟨S128x128, .bf16⟩
  | .local _ .vmem, ⟨5, _⟩ => ⟨S256x128, .bf16⟩
  | .local _ .vmem, ⟨6, _⟩ => ⟨S256x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x256, .bf16⟩
  | .local _ .vmem, ⟨12, _⟩ => ⟨S128x256, .bf16⟩
  | .local _ .vmem, ⟨13, _⟩ => ⟨S128x128, .bf16⟩
  | .local _ .vmem, ⟨14, _⟩ => ⟨S128x128, .bf16⟩
  | .local _ .vmem, ⟨15, _⟩ => ⟨S256x512, .bf16⟩
  | .local _ .vmem, ⟨16, _⟩ => ⟨S256x512, .bf16⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![c0_i32.toNat, v2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel6Ideal.lean ====
variable {F : FTy → Type} [FloatOps F] [Named F]
def κ : String → Option EReal := fun
  | "log2e" => some (((Real.log 2)⁻¹ : ℝ) : EReal)
  | "mask" => some ⊥
  | _ => none
-- ==== Reference6Ideal.lean ====
abbrev S8 : Shape := ⟨1, ![8]⟩
abbrev S4x128x16384 : Shape := ⟨3, ![4, 128, 16384]⟩
abbrev S16384x128 : Shape := ⟨2, ![16384, 128]⟩
abbrev S128x16384 : Shape := ⟨2, ![128, 16384]⟩
abbrev S4x2x2x32x16384 : Shape := ⟨5, ![4, 2, 2, 32, 16384]⟩
abbrev S16384x2x2x32 : Shape := ⟨4, ![16384, 2, 2, 32]⟩
abbrev S2x64x16384 : Shape := ⟨3, ![2, 64, 16384]⟩
abbrev S2x4x16384x16384 : Shape := ⟨4, ![2, 4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x4x1x1 : Shape := ⟨4, ![2, 4, 1, 1]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S16384x2x4x64 : Shape := ⟨4, ![16384, 2, 4, 64]⟩
abbrev S16384x512 : Shape := ⟨2, ![16384, 512]⟩

abbrev nBuf : Space → Nat
  | .hbm => 52
  | .vmem => 0
  | .smem => 0
  | _ => 0

abbrev bufTy : (tb : Table) → Fin (tcTables nBuf tb) → BufTy
  | .hbm, ⟨0, _⟩ => ⟨S8, .f32⟩
  | .hbm, ⟨1, _⟩ => ⟨S4x128x16384, .bf16⟩
  | .hbm, ⟨2, _⟩ => ⟨S16384x128, .bf16⟩
  | .hbm, ⟨3, _⟩ => ⟨S128x16384, .bf16⟩
  | .hbm, ⟨4, _⟩ => ⟨S4x128x16384, .f32⟩
  | .hbm, ⟨5, _⟩ => ⟨S4x2x2x32x16384, .f32⟩
  | .hbm, ⟨6, _⟩ => ⟨S16384x128, .f32⟩
  | .hbm, ⟨7, _⟩ => ⟨S16384x2x2x32, .f32⟩
  | .hbm, ⟨8, _⟩ => ⟨S128x16384, .f32⟩
  | .hbm, ⟨9, _⟩ => ⟨S2x64x16384, .f32⟩
  | .hbm, ⟨10, _⟩ => ⟨S2x4x16384x16384, .f32⟩
  | .hbm, ⟨11, _⟩ => ⟨S_, .f32⟩
  | .hbm, ⟨12, _⟩ => ⟨S_, .f32⟩
  | .hbm, ⟨13, _⟩ => ⟨S2x4x16384x16384, .f32⟩
  | .hbm, ⟨14, _⟩ => ⟨S2x4x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i32⟩
  | .hbm, ⟨21, _⟩ => ⟨S16384x16384, .i32⟩
  | .hbm, ⟨22, _⟩ => ⟨S_, .i32⟩
  | .hbm, ⟨23, _⟩ => ⟨S16384x16384, .i32⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S2x4x16384x16384, .i1⟩
  | .hbm, ⟨28, _⟩ => ⟨S2x4x16384x16384, .f32⟩
  | .hbm, ⟨29, _⟩ => ⟨S2x4x16384x16384, .f32⟩
  | .hbm, ⟨30, _⟩ => ⟨S2x4x1x1, .f32⟩
  | .hbm, ⟨31, _⟩ => ⟨S_, .f32⟩
  | .hbm, ⟨32, _⟩ => ⟨S2x4x16384, .f32⟩
  | .hbm, ⟨33, _⟩ => ⟨S2x4x16384x1, .f32⟩
  | .hbm, ⟨34, _⟩ => ⟨S2x4x16384x1, .f32⟩
  | .hbm, ⟨35, _⟩ => ⟨S2x4x16384x1, .f32⟩
  | .hbm, ⟨36, _⟩ => ⟨S2x4x16384x16384, .f32⟩
  | .hbm, ⟨37, _⟩ => ⟨S2x4x16384x16384, .f32⟩
  | .hbm, ⟨38, _⟩ => ⟨S2x4x16384x16384, .f32⟩
  | .hbm, ⟨39, _⟩ => ⟨S_, .f32⟩
  | .hbm, ⟨40, _⟩ => ⟨S2x4x16384, .f32⟩
  | .hbm, ⟨41, _⟩ => ⟨S2x4x16384x1, .f32⟩
  | .hbm, ⟨42, _⟩ => ⟨S2x4x16384x1, .f32⟩
  | .hbm, ⟨43, _⟩ => ⟨S2x4x16384x1, .f32⟩
  | .hbm, ⟨44, _⟩ => ⟨S2x4x16384x1, .f32⟩
  | .hbm, ⟨45, _⟩ => ⟨S2x4x16384x1, .f32⟩
  | .hbm, ⟨46, _⟩ => ⟨S2x4x16384x16384, .f32⟩
  | .hbm, ⟨47, _⟩ => ⟨S2x4x16384x16384, .f32⟩
  | .hbm, ⟨48, _⟩ => ⟨S2x64x4x16384, .f32⟩
  | .hbm, ⟨49, _⟩ => ⟨S16384x2x4x64, .f32⟩
  | .hbm, ⟨50, _⟩ => ⟨S16384x512, .f32⟩
  | .hbm, ⟨51, _⟩ => ⟨S16384x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.ReadBack
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- A load that lies within the store just made reads it: the whole rows `0` to `127` of one stream. -/
theorem read_values {sig : RefSig} {κ : Kind} {sp : Space} (v : View sig κ sp S2x144x256 .f32) (i : ℕ)
    (hi : ∀ a, (![i, 0, 0] : Fin 3 → ℕ) a + S1x144x256.size a ≤ S2x144x256.size a)
    (hi' : ∀ a, (![i, 0, 0] : Fin 3 → ℕ) a + S1x128x256.size a ≤ S2x144x256.size a)
    (w : FVec F S1x144x256 .f32) (L : List (View.Piece (Elt F) S2x144x256 .f32)) :
    v.readCov (⟨Rect.unit (s := S2x144x256) ![i, 0, 0] S1x144x256.size hi, w⟩ :: L) (Rect.unit (s := S2x144x256) ![i, 0, 0] S1x128x256.size hi').toLoadRect
      = View.ld (Val := Elt F) (e' := .f32) w (Rect.unit (s := S1x144x256) ![0, 0, 0] S1x128x256.size (by decide)) := by
  rw [View.readCov_eq_canon']
  funext j
  refine Eq.trans (congrArg _ ?_) (View.canon_cons_emb (Rect.unit (s := S2x144x256) ![i, 0, 0] S1x144x256.size hi) w L ((Rect.unit (s := S1x144x256) ![0, 0, 0] S1x128x256.size (by decide)).emb j))
  funext a
  apply Fin.ext
  fin_cases a
  · show i + 1 * (j 0).val = i + 1 * (0 + 1 * (j 0).val); omega
  · show 0 + 1 * (j 1).val = 0 + 1 * (0 + 1 * (j 1).val); omega
  · show 0 + 1 * (j 2).val = 0 + 1 * (0 + 1 * (j 2).val); omega

/-- The same for row `128`, the sum of the weights. -/
theorem read_total {sig : RefSig} {κ : Kind} {sp : Space} (v : View sig κ sp S2x144x256 .f32) (i : ℕ)
    (hi : ∀ a, (![i, 0, 0] : Fin 3 → ℕ) a + S1x144x256.size a ≤ S2x144x256.size a)
    (hi' : ∀ a, (![i, 128, 0] : Fin 3 → ℕ) a + S1x1x256.size a ≤ S2x144x256.size a)
    (w : FVec F S1x144x256 .f32) (L : List (View.Piece (Elt F) S2x144x256 .f32)) :
    v.readCov (⟨Rect.unit (s := S2x144x256) ![i, 0, 0] S1x144x256.size hi, w⟩ :: L) (Rect.unit (s := S2x144x256) ![i, 128, 0] S1x1x256.size hi').toLoadRect
      = View.ld (Val := Elt F) (e' := .f32) w (Rect.unit (s := S1x144x256) ![0, 128, 0] S1x1x256.size (by decide)) := by
  rw [View.readCov_eq_canon']
  funext j
  refine Eq.trans (congrArg _ ?_) (View.canon_cons_emb (Rect.unit (s := S2x144x256) ![i, 0, 0] S1x144x256.size hi) w L ((Rect.unit (s := S1x144x256) ![0, 128, 0] S1x1x256.size (by decide)).emb j))
  funext a
  apply Fin.ext
  fin_cases a
  · show i + 1 * (j 0).val = i + 1 * (0 + 1 * (j 0).val); omega
  · show 128 + 1 * (j 1).val = 0 + 1 * (128 + 1 * (j 1).val); omega
  · show 0 + 1 * (j 2).val = 0 + 1 * (0 + 1 * (j 2).val); omega

/-- Keys `512n` to `512n + 511`. -/
def keys (x3 : Vec F S1x16384x128 .bf16) (n : ℕ) : Vec F S1x512x128 .bf16 :=
  View.ld x3 (Rect.unit ![0, 512 * (n % 32), 0] S1x512x128.size (by intro a; fin_cases a <;> simp [S1x512x128, S1x16384x128] <;> omega))

/-- Values `512n` to `512n + 511`, one column each. -/
def vals (x4 : Vec F S1x32x128x512 .bf16) (n : ℕ) : Vec F S1x1x128x512 .bf16 :=
  View.ld x4 (Rect.unit ![0, n % 32, 0, 0] S1x1x128x512.size (by intro a; fin_cases a <;> simp [S1x1x128x512, S1x32x128x512] <;> omega))

variable (q : FVec F S1x128x256 .bf16) (x3 : Vec F S1x16384x128 .bf16) (x4 : Vec F S1x32x128x512 .bf16)

/-- The scores of block `n`: keys by queries. -/
def score (n : ℕ) : FVec F S512x256 .f32 := k0_pay11 (keys x3 n) q

/-- The running maximum of the scores of the blocks before `n`. -/
def top : ℕ → FVec F S1x256 .f32
  | 0 => k0_pay9
  | n + 1 => maximumf (top n) (k0_pay13 (score q x3 n))

/-- The weights of block `n`. -/
def weight (n : ℕ) : FVec F S1x512x256 .bf16 := k0_pay26 (top q x3 n) (k0_pay13 (score q x3 n)) (k0_pay12 (score q x3 n))

/-- The sums over the blocks before `n`: rows `0` to `127` of weighted values, rows `128` to `143` of weights. -/
def sums (z : FVec F S1x144x256 .f32) : ℕ → FVec F S1x144x256 .f32
  | 0 => z
  | n + 1 => k0_pay38 k0_pay8 (exp2 (subf (top q x3 n) (top q x3 (n + 1)))) (vals x4 n) (sums z n) (weight q x3 n)

/-- The weighted values of a stream's sums. -/
def valuesOf (a : FVec F S1x144x256 .f32) : FVec F S1x128x256 .f32 := View.ld (Val := Elt F) (e' := .f32) a (Rect.unit (s := S1x144x256) ![0, 0, 0] S1x128x256.size (by decide))

/-- The sum of the weights of a stream's sums. -/
def totalOf (a : FVec F S1x144x256 .f32) : FVec F S1x1x256 .f32 := View.ld (Val := Elt F) (e' := .f32) a (Rect.unit (s := S1x144x256) ![0, 128, 0] S1x1x256.size (by decide))

/-- The block's output from lambda's parameters, the gain and the two streams' sums. -/
def finish (x0 : Vec F S4x64 .f32) (x1 : Vec F S128x1 .f32) (a b : FVec F S1x144x256 .f32) : FVec F S256x128 .bf16 :=
  k0_pay1 (k0_pay561 x0 (totalOf a) (totalOf b) (valuesOf a) (valuesOf b)) (k0_pay562 x0 (totalOf a) (totalOf b) (valuesOf a) (valuesOf b))
    (FloatOps.ofBits .f32 0x43000000#32) x1

/-- The block's output from the five blocks it reads. -/
def attend (x0 : Vec F S4x64 .f32) (x1 : Vec F S128x1 .f32) (x2 : Vec F S1x128x256 .bf16) (x3 : Vec F S1x16384x128 .bf16)
    (x4 : Vec F S1x32x128x512 .bf16) : FVec F S256x128 .bf16 :=
  finish x0 x1
    (sums (k0_pay5 x2) x3 x4 (View.ld (Val := Elt F) (e' := .f32) k0_pay7 (Rect.unit (s := S2x144x256) ![0, 0, 0] S1x144x256.size (by decide))) 32)
    (sums (k0_pay6 x2) x3 x4 (View.ld (Val := Elt F) (e' := .f32) k0_pay7 (Rect.unit (s := S2x144x256) ![1, 0, 0] S1x144x256.size (by decide))) 32)

/-- What a point of the grid leaves in its output block is the attention of its blocks. -/
theorem outsAt_eq (c : Dev nD) (t : Fin cfg0.N) :
    outsAt0 m c t = attend (iblk m c 0 t) (iblk m c 1 t) (iblk m c 2 t) (iblk m c 3 t) (iblk m c 4 t) := by
  unfold outsAt0 out0_A_5
  generalize iblk m c 0 t = x0
  generalize iblk m c 1 t = x1
  generalize iblk m c 2 t = x2
  generalize iblk m c 3 t = x3
  generalize iblk m c 4 t = x4
  rw [View.read_writes_junk_eq_canon]
  unfold kernelRun0_A
  dsimp only
  sl_unfold_run_names
  simp (disch := decide) only [View.canon_cons_unit_lit', ↓ View.readCov_skip, ↓ View.readCov_cons_toLoadRect, ↓ View.readCov_fill, ↓ read_values, ↓ read_total,
    View.readAt_eq_ld, Memref.IsWhole.read_unread, View.ld_unit_lit']
  simp only [attend, finish, valuesOf, totalOf, sums, weight, top, score, keys, vals, Nat.reduceMul, Nat.reduceMod, Nat.zero_mod, Nat.mul_zero]
  unfold_payloads
  rfl

end Cert.KernelIdeal.Attn

end
-- ==== Proof.Stream.lean ====
module

public import proofs.«01_k».proof.Proof.Block
public import Idealize.ShloMosaic.Lib.Pointwise

@[expose] public section

set_option maxRecDepth 16384

noncomputable section

namespace Cert.KernelIdeal.Attn

open Cert.KernelIdeal Cert.KernelIdeal.Gen Idealize.ShloMosaic

variable (q : FVec Ideal S1x128x256 .bf16) (x3 : Vec Ideal S1x16384x128 .bf16) (x4 : Vec Ideal S1x32x128x512 .bf16)

/-! ## The stream's steps at an index -/

theorem keys_apply (n : ℕ) (k : Fin 512) (r : Fin 128) :
    keys x3 n (ix3 0 k r) = x3 (ix3 0 ⟨512 * (n % 32) + k, by omega⟩ r) := by
  unfold keys
  pointwise []

theorem score_apply (n : ℕ) (k : Fin 512) (j : Fin 256) :
    score q x3 n (ix2 k j) = ∑ r : Fin 128, x3 (ix3 0 ⟨512 * (n % 32) + k, by omega⟩ r) * q (ix3 0 r j) := by
  simp only [← keys_apply]
  unfold score
  unfold_payloads
  pointwise [dot_S512x128_S128x256_S512x256_1_0_0_1_n_n]

theorem vals_apply (n : ℕ) (e : Fin 128) (k : Fin 512) : vals x4 n (ix4 0 0 e k) = x4 (ix4 0 ⟨n % 32, by omega⟩ e k) := by
  unfold vals
  pointwise []

theorem top_zero (j : Fin 256) : top q x3 0 (ix2 0 j) = Ideal.ofBits .f32 0xF149F2CA#32 := by
  rw [show top q x3 0 = k0_pay9 from rfl]
  unfold_payloads
  pointwise []

theorem top_succ (n : ℕ) (j : Fin 256) :
    top q x3 (n + 1) (ix2 0 j)
      = max (top q x3 n (ix2 0 j)) (Finset.fold max (Ideal.ofBits .f32 0xFF800000#32) (fun k => score q x3 n (ix2 k j)) Finset.univ) := by
  rw [show top q x3 (n + 1) = maximumf (top q x3 n) (k0_pay13 (score q x3 n)) from rfl]
  unfold_payloads
  pointwise []

theorem weight_apply (n : ℕ) (k : Fin 512) (j : Fin 256) :
    weight q x3 n (ix3 0 k j) = Ideal.exp2 (score q x3 n (ix2 k j) - top q x3 (n + 1) (ix2 0 j)) := by
  unfold weight
  rw [show top q x3 (n + 1) = maximumf (top q x3 n) (k0_pay13 (score q x3 n)) from rfl]
  generalize score q x3 n = s
  unfold_payloads
  pointwise []
  rfl

theorem sums_succ (z : FVec Ideal S1x144x256 .f32) (n : ℕ) (e : Fin 144) (j : Fin 256) :
    sums q x3 x4 z (n + 1) (ix3 0 e j)
      = Ideal.exp2 (top q x3 n (ix2 0 j) - top q x3 (n + 1) (ix2 0 j)) * sums q x3 x4 z n (ix3 0 e j)
        + ∑ k : Fin 512, (if h : e.val < 128 then vals x4 n (ix4 0 0 ⟨e, h⟩ k) else 1) * weight q x3 n (ix3 0 k j) := by
  rw [sums]
  generalize top q x3 n = t0
  generalize top q x3 (n+1) = t1
  generalize weight q x3 n = w
  generalize sums q x3 x4 z n = a
  unfold_payloads
  pointwise [dot_S144x512_S512x256_S144x256_1_0_0_1_n_n]
  rfl

/-! ## The sums over real scores and values -/

/-- A finite sum of reals, as an extended real. -/
theorem coe_sum {ι : Type} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- The maximum of finitely many reals over a real is real. -/
theorem max_real (c : ℝ) (f : Fin 512 → ℝ) :
    ∃ T : ℝ, max (c : EReal) (Finset.fold max (Ideal.ofBits .f32 0xFF800000#32) (fun k => (f k : EReal)) Finset.univ) = T := by
  rw [show Ideal.ofBits .f32 0xFF800000#32 = ⊥ by simp [Ideal.ofBits, Ideal.ieee]]
  obtain ⟨k, -, hk⟩ := Finset.exists_mem_eq_sup (Finset.univ : Finset (Fin 512)) ⟨0, Finset.mem_univ _⟩ (fun k => (f k : EReal))
  have : Finset.fold max ⊥ (fun k => (f k : EReal)) Finset.univ = f k := hk
  rw [this]
  exact ⟨max c (f k), (EReal.coe_strictMono.monotone.map_max).symm⟩

/-- After `n` blocks the running maximum is some real `T`, and each row of sums is the sum of the row's factors against the
    weights `2 ^ (s k - T)`. -/
theorem sums_real (z : FVec Ideal S1x144x256 .f32) (j : Fin 256) (s : ℕ → ℝ) (w : Fin 144 → ℕ → ℝ)
    (hs : ∀ n < 32, ∀ k : Fin 512, score q x3 n (ix2 k j) = (s (512 * n + k) : EReal))
    (hw : ∀ n < 32, ∀ (e : Fin 144) (k : Fin 512),
      (if h : e.val < 128 then vals x4 n (ix4 0 0 ⟨e, h⟩ k) else 1) = (w e (512 * n + k) : EReal))
    (hz : ∀ e, z (ix3 0 e j) = 0) (n : ℕ) (hn : n ≤ 32) :
    ∃ T : ℝ, top q x3 n (ix2 0 j) = T ∧ ∀ e : Fin 144,
      sums q x3 x4 z n (ix3 0 e j) = ((∑ k ∈ Finset.range (512 * n), w e k * (2 : ℝ) ^ (s k - T) : ℝ) : EReal) := by
  induction n with
  | zero =>
    refine ⟨((-(((2 ^ 23 + 4846282 : ℝ)) * 2 ^ 76) : ℝ)), ?_, fun e => ?_⟩
    · rw [top_zero]
      simp [Ideal.ofBits, Ideal.ieee, -EReal.coe_mul]
      norm_num
    · rw [sums, hz]; simp
  | succ n ih =>
    obtain ⟨T, hT, hA⟩ := ih (by omega)
    obtain ⟨T', hT'⟩ := max_real T fun k => s (512 * n + k)
    have hT1 : top q x3 (n + 1) (ix2 0 j) = T' := by
      rw [top_succ, hT, ← hT']
      simp only [hs n (by omega)]
    refine ⟨T', hT1, fun e => ?_⟩
    rw [sums_succ, hT, hT1, hA]
    simp only [hw n (by omega), weight_apply, hs n (by omega), hT1, ← EReal.coe_sub, Ideal.exp2_coe, ← EReal.coe_mul, coe_sum, ← EReal.coe_add]
    congr 1
    rw [show 512 * (n + 1) = 512 * n + 512 by ring, Finset.sum_range_add, Finset.mul_sum]
    congr 1
    · refine Finset.sum_congr rfl fun k _ => ?_
      show (2 : ℝ) ^ (T - T') * _ = _
      rw [mul_left_comm, ← Real.rpow_add two_pos]
      congr 2
      ring

end Cert.KernelIdeal.Attn

end
-- ==== Proof.Soft.lean ====
module

public import Idealize.ShloMosaic.PureOps.Ideal
public import proofs.«01_k».proof.Proof.Stream

@[expose] public section

noncomputable section

namespace Cert.Attn

open Idealize.ShloMosaic

/-- The inner product of one stream of a query with one stream of a key: stream `j` of a head holds the channels
    `64 * x + 32 * j + d` of the head's 128, with `x` one of two halves and `d` one of 32. -/
def dots (j : Fin 2) (q k : Fin 128 → EReal) : ℝ :=
  ∑ x : Fin 2, ∑ d : Fin 32, (q ⟨x * 64 + j * 32 + d, by omega⟩).toReal * (k ⟨x * 64 + j * 32 + d, by omega⟩).toReal

/-- The average of `w` over the 16384 keys under the softmax to base two of the scores `s`. -/
def avg (s w : ℕ → ℝ) : ℝ :=
  (∑ k ∈ Finset.range 16384, w k * (2:ℝ) ^ s k) / ∑ k ∈ Finset.range 16384, (2:ℝ) ^ s k

/-- The factor of the second softmax, from the four learned vectors. -/
def factor (l : Fin 4 → Fin 64 → EReal) : EReal :=
  Ideal.exp (∑ x, l 0 x * l 1 x) - Ideal.exp (∑ x, l 2 x * l 3 x) + Ideal.ofBits FTy.f32 1045220557#32

/-- A sum of reals is real. -/
theorem sum_real {ι : Type} [Fintype ι] (f : ι → EReal) (h : ∀ i, ∃ r : ℝ, f i = r) : ∃ r : ℝ, ∑ i, f i = r := by
  choose g hg using h
  exact ⟨∑ i, g i, by simp only [hg]; exact KernelIdeal.Attn.coe_sum _ _⟩

/-- Finite learned vectors give a finite factor. -/
theorem factor_real (l : Fin 4 → Fin 64 → EReal) (h : ∀ i x, ∃ r : ℝ, l i x = r) : ∃ r : ℝ, factor l = r := by
  have hs : ∀ a b, ∃ r : ℝ, ∑ x, l a x * l b x = r := fun a b => sum_real _ fun x => by
    obtain ⟨r, hr⟩ := h a x
    obtain ⟨t, ht⟩ := h b x
    exact ⟨r * t, by rw [hr, ht, EReal.coe_mul]⟩
  obtain ⟨a, ha⟩ := hs 0 1
  obtain ⟨b, hb⟩ := hs 2 3
  have hc : ∃ c : ℝ, Ideal.ofBits FTy.f32 1045220557#32 = c := ⟨_, by simp [Ideal.ofBits, Ideal.ieee, -EReal.coe_mul]; rfl⟩
  obtain ⟨c, hc⟩ := hc
  exact ⟨Real.exp a - Real.exp b + c, by rw [factor, ha, hb, hc, Ideal.exp_coe, Ideal.exp_coe]; push_cast; rfl⟩

/-- The sum of the powers of two over the keys is positive. -/
theorem pow_sum_pos (s : ℕ → ℝ) : 0 < ∑ k ∈ Finset.range 16384, (2:ℝ) ^ s k :=
  Finset.sum_pos (fun k _ => by positivity) (by simp)

/-- Shifting every score by the same amount does not change the average: one sum divided by the other. -/
theorem avg_shift (s w : ℕ → ℝ) (T : ℝ) :
    (∑ k ∈ Finset.range 16384, w k * (2:ℝ) ^ (s k - T)) * (1 / ∑ k ∈ Finset.range 16384, (2:ℝ) ^ (s k - T)) = avg s w := by
  have h2 : ∀ k, (2:ℝ) ^ (s k - T) = (2:ℝ) ^ s k * ((2:ℝ) ^ T)⁻¹ := fun k => by
    rw [Real.rpow_sub (by norm_num), div_eq_mul_inv]
  have hT : ((2:ℝ) ^ T)⁻¹ ≠ 0 := by positivity
  have hp := (pow_sum_pos s).ne'
  simp only [h2, ← mul_assoc, ← Finset.sum_mul, avg]
  field_simp

/-- The same average through natural exponentials of the scores times `log 2`, normalised key by key. -/
theorem avg_exp (s w : ℕ → ℝ) (M : ℝ) :
    ∑ k ∈ Finset.range 16384, w k * (Real.exp (s k * Real.log 2 - M) / ∑ k ∈ Finset.range 16384, Real.exp (s k * Real.log 2 - M))
      = avg s w := by
  have h2 : ∀ k, Real.exp (s k * Real.log 2 - M) = (2:ℝ) ^ s k * (Real.exp M)⁻¹ := fun k => by
    rw [Real.exp_sub, div_eq_mul_inv, Real.rpow_def_of_pos (by norm_num), mul_comm (s k)]
  have hT : (Real.exp M)⁻¹ ≠ 0 := by positivity
  have hp := (pow_sum_pos s).ne'
  simp only [h2, ← mul_assoc, ← Finset.sum_mul, avg, Finset.sum_div]
  refine Finset.sum_congr rfl fun k _ => ?_
  have := (Real.exp_pos M).ne'
  field_simp

/-- The greatest of finitely many reals, folded from minus infinity, is real. -/
theorem fold_real {ι : Type*} (t : Finset ι) (ht : t.Nonempty) (f : ι → EReal) (h : ∀ k, ∃ r : ℝ, f k = r) :
    ∃ T : ℝ, t.fold max ⊥ f = T := by
  classical
  induction ht using Finset.Nonempty.cons_induction with
  | singleton a =>
    obtain ⟨r, hr⟩ := h a
    exact ⟨r, by simp [hr]⟩
  | cons a t ha _ ih =>
    obtain ⟨r, hr⟩ := h a
    obtain ⟨T, hT⟩ := ih
    exact ⟨max r T, by rw [Finset.fold_cons, hr, hT]; exact (EReal.coe_strictMono.monotone.map_max (a := r) (b := T)).symm⟩

end Cert.Attn

end
-- ==== Proof.Attend.lean ====
module

public import proofs.«01_k».proof.Proof.Stream
public import proofs.«01_k».proof.Proof.Soft
public import Idealize.ShloMosaic.Lib.Pointwise

@[expose] public section

set_option maxRecDepth 16384

noncomputable section

namespace Cert.KernelIdeal.Attn

open Cert.KernelIdeal Cert.KernelIdeal.Gen Idealize.ShloMosaic Cert.Attn

/-- Whether a channel of a head belongs to the first of the two streams: bit 5 of its number is clear. -/
theorem stream_bit : ∀ r : Fin 128, IntOp.cmpi .eq (IntOp.andi (BitVec.ofNat 32 r) 32#32) 0#32 = if r.val / 32 % 2 = 0 then 1#1 else 0#1 := by
  decide +kernel

/-- The query with the second stream's channels cleared. -/
theorem first_apply (x2 : Vec Ideal S1x128x256 .bf16) (r : Fin 128) (j : Fin 256) :
    k0_pay5 x2 (ix3 0 r j) = if r.val / 32 % 2 = 0 then x2 (ix3 0 r j) else 0 := by
  unfold_payloads
  pointwise []
  rw [stream_bit]
  split <;> simp [Scalar.select]

/-- The query with the first stream's channels cleared. -/
theorem second_apply (x2 : Vec Ideal S1x128x256 .bf16) (r : Fin 128) (j : Fin 256) :
    k0_pay6 x2 (ix3 0 r j) = if r.val / 32 % 2 = 1 then x2 (ix3 0 r j) else 0 := by
  unfold_payloads
  pointwise []
  rw [stream_bit]
  rcases Nat.mod_two_eq_zero_or_one (r.val / 32) with h | h <;> simp [Scalar.select, h]

/-- A sum over a head's channels, by stream: channel `64 * x + 32 * i + d`. -/
theorem sum_channels (f : Fin 128 → ℝ) : ∑ r, f r = ∑ i : Fin 2, ∑ x : Fin 2, ∑ d : Fin 32, f ⟨x * 64 + i * 32 + d, by omega⟩ := by
  rw [← Equiv.sum_comp (finProdFinEquiv (m := 4) (n := 32)), Fintype.sum_prod_type, Fin.sum_univ_four]
  simp only [Fin.sum_univ_two]
  have e : ∀ (a : Fin 4) (c : ℕ) (hc : c = a.val * 32), ∑ d : Fin 32, f (finProdFinEquiv (a, d)) = ∑ d : Fin 32, f ⟨c + d, by omega⟩ := fun a c hc =>
    Finset.sum_congr rfl fun d _ => congrArg f (Fin.ext (by simp only [finProdFinEquiv_apply_val]; omega))
  rw [e 0 _ rfl, e 1 _ rfl, e 2 _ rfl, e 3 _ rfl]
  simp only [Fin.isValue, Fin.val_zero, Fin.val_one, Fin.val_two, zero_mul, one_mul, zero_add, add_zero]
  have e3 : ((3 : Fin 4) : ℕ) = 3 := rfl
  simp only [e3]
  norm_num
  ring

/-- A key's product with a query that keeps one stream's channels is the inner product over that stream. -/
theorem masked_sum (i : Fin 2) (q k : Fin 128 → EReal) (hq : ∀ r, ∃ a : ℝ, q r = a) (hk : ∀ r, ∃ a : ℝ, k r = a) :
    ∑ r : Fin 128, k r * (if r.val / 32 % 2 = i.val then q r else 0) = (dots i q k : ℝ) := by
  choose a ha using hq
  choose b hb using hk
  have hd : dots i q k = ∑ x : Fin 2, ∑ d : Fin 32, a ⟨x * 64 + i * 32 + d, by omega⟩ * b ⟨x * 64 + i * 32 + d, by omega⟩ := by
    simp only [dots, ha, hb, EReal.toReal_coe]
  have hm : ∀ r : Fin 128, k r * (if r.val / 32 % 2 = i.val then q r else 0) = ((if r.val / 32 % 2 = i.val then a r * b r else 0 : ℝ) : EReal) := fun r => by
    split <;> rename_i h
    · rw [ha, hb, EReal.coe_mul, mul_comm]
    · rw [mul_zero]; rfl
  simp only [hm]
  rw [coe_sum, hd, sum_channels]
  have hi : ∀ (i' x : Fin 2) (d : Fin 32), (x.val * 64 + i'.val * 32 + d.val) / 32 % 2 = i'.val := fun i' x d => by omega
  simp only [hi]
  congr 1
  rw [Finset.sum_eq_single i]
  · simp
  · intro i' _ hne
    have : i'.val ≠ i.val := fun h => hne (Fin.ext h)
    simp [this]
  · simp

/-- What the block's output holds: the difference of the two averages, normalised over the head, times the gain and 0.8. -/
theorem finish_apply (x0 : Vec Ideal S4x64 .f32) (x1 : Vec Ideal S128x1 .f32) (a b : FVec Ideal S1x144x256 .f32) (j : Fin 256) (e : Fin 128)
    (o : Fin 128 → EReal)
    (ho : ∀ x : Fin 128, a (ix3 0 ⟨x, by omega⟩ j) * Ideal.div 1 (a (ix3 0 128 j))
        - factor (fun u v => x0 (ix2 u v)) * (b (ix3 0 ⟨x, by omega⟩ j) * Ideal.div 1 (b (ix3 0 128 j))) = o x) :
    finish x0 x1 a b (ix2 j e)
      = o e * Ideal.rsqrt (Ideal.div (∑ x, o x * o x) (Ideal.ofBits FTy.f32 1124073472#32) + Ideal.ofBits FTy.f32 925353388#32)
          * x1 (ix2 e 0) * Ideal.ofBits FTy.f32 1061997773#32 := by
  simp only [← ho]
  unfold finish valuesOf totalOf factor
  unfold_payloads
  pointwise []

/-- The accumulator before the first keys. -/
theorem zero_apply (i : ℕ) (hi) (e : Fin 144) (j : Fin 256) :
    View.ld (Val := Elt Ideal) (e' := .f32) (k0_pay7 : FVec Ideal S2x144x256 .f32) (Rect.unit (s := S2x144x256) ![i, 0, 0] S1x144x256.size hi) (ix3 0 e j) = 0 := by
  unfold_payloads
  show Ideal.ofBits .f32 0#32 = 0
  simp [Ideal.ofBits, Ideal.ieee]

/-- One stream's accumulated values over its accumulated weights is the softmax average. -/
theorem stream_avg (q : FVec Ideal S1x128x256 .bf16) (x3 : Vec Ideal S1x16384x128 .bf16) (x4 : Vec Ideal S1x32x128x512 .bf16)
    (z : FVec Ideal S1x144x256 .f32) (j : Fin 256) (s : ℕ → ℝ) (w : Fin 128 → ℕ → ℝ)
    (hz : ∀ e, z (ix3 0 e j) = 0)
    (hs : ∀ k : Fin 16384, ∑ r : Fin 128, x3 (ix3 0 k r) * q (ix3 0 r j) = (s k : EReal))
    (hw : ∀ e (k : Fin 16384), x4 (ix4 0 ⟨k / 512, by omega⟩ e ⟨k % 512, by omega⟩) = (w e k : EReal)) (e : Fin 128) :
    sums q x3 x4 z 32 (ix3 0 ⟨e, by omega⟩ j) * Ideal.div 1 (sums q x3 x4 z 32 (ix3 0 128 j)) = (avg s (w e) : ℝ) := by
  obtain ⟨T, -, hT⟩ := sums_real q x3 x4 z j s (fun e k => if h : e.val < 128 then w ⟨e, h⟩ k else 1)
    (fun n hn k => by
      rw [score_apply]
      have h := hs ⟨512 * n + k, by omega⟩
      simp only [Nat.mod_eq_of_lt hn]
      exact h)
    (fun n hn e k => by
      split <;> rename_i h
      · rw [vals_apply]
        have h' := hw ⟨e, h⟩ ⟨512 * n + k, by omega⟩
        simp only [Nat.mod_eq_of_lt hn]
        have h1 : (512 * n + k.val) / 512 = n := by omega
        have h2 : (512 * n + k.val) % 512 = k.val := by omega
        simp only [h1, h2] at h'
        exact h'
      · rfl) hz 32 le_rfl
  have h128 : ¬ ((128 : Fin 144) : ℕ) < 128 := by decide
  rw [hT, hT]
  simp only [h128, dif_neg, not_false_eq_true, e.isLt, dif_pos, one_mul]
  have hp : 0 < ∑ k ∈ Finset.range (512 * 32), (2:ℝ) ^ (s k - T) := Finset.sum_pos (fun k _ => by positivity) (by simp)
  rw [Ideal.div_coe hp.ne', ← avg_shift s (w e) T, one_mul, ← EReal.coe_mul]

/-- The block's output at a query and a channel, for finite operands. -/
theorem attend_apply (x0 : Vec Ideal S4x64 .f32) (x1 : Vec Ideal S128x1 .f32) (x2 : Vec Ideal S1x128x256 .bf16) (x3 : Vec Ideal S1x16384x128 .bf16)
    (x4 : Vec Ideal S1x32x128x512 .bf16) (hq : ∀ i, ∃ r : ℝ, x2 i = r) (hk : ∀ i, ∃ r : ℝ, x3 i = r) (j : Fin 256) (e : Fin 128)
    (s : Fin 2 → ℕ → ℝ) (w : Fin 128 → ℕ → ℝ) (lam : ℝ) (hl : factor (fun a b => x0 (ix2 a b)) = lam)
    (hs : ∀ i, ∀ k : Fin 16384, dots i (fun r => x2 (ix3 0 r j)) (fun r => x3 (ix3 0 k r)) = s i k)
    (hw : ∀ e (k : Fin 16384), x4 (ix4 0 ⟨k / 512, by omega⟩ e ⟨k % 512, by omega⟩) = (w e k : EReal))
    (o : Fin 128 → EReal) (ho : ∀ x, o x = ((avg (s 0) (w x) - lam * avg (s 1) (w x) : ℝ) : EReal)) :
    attend x0 x1 x2 x3 x4 (ix2 j e)
      = o e * Ideal.rsqrt (Ideal.div (∑ x, o x * o x) (Ideal.ofBits FTy.f32 1124073472#32) + Ideal.ofBits FTy.f32 925353388#32)
          * x1 (ix2 e 0) * Ideal.ofBits FTy.f32 1061997773#32 := by
  unfold attend
  refine finish_apply _ _ _ _ _ _ _ fun x => ?_
  rw [ho, hl,
    stream_avg (k0_pay5 x2) x3 x4 _ j (s 0) w (fun e => zero_apply _ _ e j)
      (fun k => by rw [← hs 0 k, ← masked_sum 0 _ _ (fun r => hq _) (fun r => hk _)]; simp only [first_apply]; rfl) hw x,
    stream_avg (k0_pay6 x2) x3 x4 _ j (s 1) w (fun e => zero_apply _ _ e j)
      (fun k => by rw [← hs 1 k, ← masked_sum 1 _ _ (fun r => hq _) (fun r => hk _)]; simp only [second_apply]; rfl) hw x,
    ← EReal.coe_mul, ← EReal.coe_sub]

end Cert.KernelIdeal.Attn

end
-- ==== Proof.Ref.lean ====
module

public import proofs.«01_k».proof.Proof.Gen.ReferenceIdeal.Read
public import proofs.«01_k».proof.Proof.Soft
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Cert.Attn

variable (x0 : Vec Ideal S4x64 .f32) (x1 : Vec Ideal S128 .f32) (x2 : Vec Ideal S4x128x16384 .bf16) (x3 : Vec Ideal S4x16384x128 .bf16)
  (x4 : Vec Ideal S4x32x128x512 .bf16)

/-- A score is the inner product of a query with a key over the two halves and 32 channels of one stream. -/
theorem score_apply (h : Fin 4) (i : Fin 2) (p k : Fin 16384) : val_main_v7 (F := Ideal) x2 x3 (ix4 h i p k)
    = ∑ x : Fin 2, ∑ d : Fin 32, x2 (ix3 h ⟨x * 64 + i * 32 + d, by omega⟩ p) * x3 (ix3 h k ⟨x * 64 + i * 32 + d, by omega⟩) := by
  unfold val_main_v7 val_main_v1 val_main_v3 val_main_v0 val_main_v2
  pointwise [dot_S4x2x2x32x16384_S4x16384x2x2x32_S4x2x16384x16384_13_24_4_1_02_03]

/-- With finite queries and keys it is the real inner product. -/
theorem score_real (hq : ∀ i, ∃ r : ℝ, x2 i = r) (hk : ∀ i, ∃ r : ℝ, x3 i = r) (h : Fin 4) (i : Fin 2) (p k : Fin 16384) :
    val_main_v7 (F := Ideal) x2 x3 (ix4 h i p k) = (dots i (fun r => x2 (ix3 h r p)) (fun r => x3 (ix3 h k r)) : ℝ) := by
  rw [score_apply, dots, ← KernelIdeal.Attn.coe_sum]
  refine Finset.sum_congr rfl fun x _ => ?_
  rw [← KernelIdeal.Attn.coe_sum]
  refine Finset.sum_congr rfl fun d _ => ?_
  obtain ⟨a, ha⟩ := hq (ix3 h ⟨x * 64 + i * 32 + d, by omega⟩ p)
  obtain ⟨b, hb⟩ := hk (ix3 h k ⟨x * 64 + i * 32 + d, by omega⟩)
  rw [ha, hb, EReal.coe_mul, EReal.toReal_coe, EReal.toReal_coe]

/-- The factor the scores are taken by: the natural logarithm of two. -/
theorem log_two (i : S4x2x16384x16384.Idx) : val_main_v9 (F := Ideal) i = (Real.log 2 : ℝ) := by
  rw [val_main_v9_apply, val_main_v8_apply, val_main_cst_apply]
  show Ideal.log (Ideal.ofBits .f32 0x40000000#32) = _
  rw [show Ideal.ofBits .f32 0x40000000#32 = ((2:ℝ) : EReal) by simp [Ideal.ofBits, Ideal.ieee, -EReal.coe_mul]; norm_num, Ideal.log_coe,
    if_neg (by norm_num)]

/-- The row maximum subtracted before the exponential is real when the scores are. -/
theorem top_real (hs : ∀ i, ∃ r : ℝ, val_main_v7 (F := Ideal) x2 x3 i = r) (i : S4x2x16384.Idx) :
    ∃ T : ℝ, val_main_v13 (F := Ideal) x2 x3 i = T := by
  have h10 : ∀ i, ∃ r : ℝ, val_main_v10 (F := Ideal) x2 x3 i = r := fun i => by
    obtain ⟨r, hr⟩ := hs i
    exact ⟨r * Real.log 2, by rw [val_main_v10_apply, hr, log_two]; exact (EReal.coe_mul r (Real.log 2)).symm⟩
  have hbot : Ideal.ofBits .f32 0xFF800000#32 = ⊥ := by simp [Ideal.ofBits, Ideal.ieee]
  have h11 : ∃ T : ℝ, val_main_v11 (F := Ideal) x2 x3 i = T := by
    unfold val_main_v11
    revert h10
    generalize val_main_v10 (F := Ideal) x2 x3 = y
    intro h10
    have hf := Host.reduce_eq_fold_single (α := Ideal .f32) (s := S4x2x16384x16384) (t := S4x2x16384) (a := 3) (u := S_) (FloatOps.maximumf (F := Ideal) (φ := .f32)) y
      (val_main_cst_0 (F := Ideal)) reducesTo_S4x2x16384x16384_S4x2x16384_d3 (by decide) h_S_ i
    rw [val_main_cst_0_apply] at hf
    rw [hf]
    obtain ⟨T, hT⟩ := fold_real (Finset.univ : Finset (Fin (S4x2x16384x16384.size 3))) ⟨⟨0, by decide⟩, Finset.mem_univ _⟩
      (fun k => y (Shape.Reduces.lift (t := S4x2x16384) (a := 3) (by decide) i k)) (fun k => h10 _)
    refine ⟨T, ?_⟩
    rw [← hT, ← hbot]
    rfl
  obtain ⟨T, hT⟩ := h11
  exact ⟨T, by
    rw [val_main_v13_apply, hT, val_main_v12_apply, val_main_cst_1_apply]
    show max (Ideal.ofBits .f32 0xFF800000#32) (T : EReal) = T
    rw [hbot]
    exact max_eq_right bot_le⟩

/-- A softmax weight: the exponential of the score times `log 2` less the row maximum, over the sum of these. -/
theorem soft_real (h : Fin 4) (i : Fin 2) (p : Fin 16384) (hs : ∀ i, ∃ r : ℝ, val_main_v7 (F := Ideal) x2 x3 i = r) (s : ℕ → ℝ)
    (hr : ∀ k : Fin 16384, val_main_v7 (F := Ideal) x2 x3 (ix4 h i p k) = s k) : ∃ M : ℝ, ∀ k : Fin 16384,
      val_main_v21 (F := Ideal) x2 x3 (ix4 h i p k)
        = (Real.exp (s k * Real.log 2 - M) / ∑ k ∈ Finset.range 16384, Real.exp (s k * Real.log 2 - M) : ℝ) := by
  obtain ⟨M, hM⟩ := top_real x2 x3 hs (ix3 h i p)
  have h17 : ∀ k : Fin 16384, val_main_v17 (F := Ideal) x2 x3 (ix4 h i p k) = (Real.exp (s k * Real.log 2 - M) : ℝ) := fun k => by
    have e : idx_main_v14 (idx_main_v15 (ix4 h i p k)) = ix3 h i p := by
      funext a; match a with | ⟨0, _⟩ => rfl | ⟨1, _⟩ => rfl | ⟨2, _⟩ => rfl
    rw [val_main_v17_apply, val_main_v16_apply, val_main_v15_apply, val_main_v14_apply, val_main_v10_apply, log_two, hr, e, hM]
    show Ideal.exp ((s k : EReal) * (Real.log 2 : ℝ) - M) = _
    rw [← EReal.coe_mul, ← EReal.coe_sub, Ideal.exp_coe]
  refine ⟨M, fun k => ?_⟩
  have e : idx_main_v19 (idx_main_v20 (ix4 h i p k)) = ix3 h i p := by
    funext a; match a with | ⟨0, _⟩ => rfl | ⟨1, _⟩ => rfl | ⟨2, _⟩ => rfl
  have e' : ∀ k, idx_main_v18 (ix3 h i p) k = ix4 h i p k := fun k => by
    funext a; match a with | ⟨0, _⟩ => rfl | ⟨1, _⟩ => rfl | ⟨2, _⟩ => rfl | ⟨3, _⟩ => rfl
  have hp : 0 < ∑ k ∈ Finset.range 16384, Real.exp (s k * Real.log 2 - M) :=
    Finset.sum_pos (fun k _ => Real.exp_pos _) (by simp)
  have h18 : val_main_v18 (F := Ideal) x2 x3 (ix3 h i p) = (∑ k ∈ Finset.range 16384, Real.exp (s k * Real.log 2 - M) : ℝ) := by
    rw [val_main_v18_apply, val_main_cst_2_apply, Finset.sum_range]
    simp only [e', h17]
    rw [KernelIdeal.Attn.coe_sum]
    show Ideal.ofBits .f32 0#32 + _ = _
    rw [show Ideal.ofBits .f32 0#32 = 0 by simp [Ideal.ofBits, Ideal.ieee], zero_add]
  rw [val_main_v21_apply, val_main_v20_apply, val_main_v19_apply, e, h17, h18]
  show Ideal.div _ _ = _
  rw [Ideal.div_coe hp.ne', ← EReal.coe_mul, ← div_eq_mul_one_div]

/-- The factor of the second softmax. -/
theorem lam_apply (i : S_.Idx) : val_main_v37 (F := Ideal) x0 i = factor fun a b => x0 (ix2 a b) := by
  unfold factor val_main_v37 val_main_v36 val_main_v35 val_main_v34 val_main_v33 val_main_v32 val_main_v31 val_main_v30 val_main_v29 val_main_v28 val_main_v27 val_main_v26 val_main_v25 val_main_v24 val_main_v23 val_main_v22
    val_main_cst_3 val_main_cst_4 val_main_cst_5
  pointwise []

/-- A value read by head, key and channel. -/
theorem value_apply (h : Fin 4) (k : Fin 16384) (e : Fin 128) : val_main_v6 (F := Ideal) x4 (ix3 h k e)
    = x4 (ix4 h ⟨k / 512, by omega⟩ e ⟨k % 512, by omega⟩) := by
  unfold val_main_v6 val_main_v5 val_main_v4
  pointwise []

/-- One weight of the difference of the two softmaxes. -/
theorem diff_apply (h : Fin 4) (p k : Fin 16384) : val_main_v44 (F := Ideal) x0 x2 x3 (ix3 h p k)
    = val_main_v21 (F := Ideal) x2 x3 (ix4 h 0 p k) - val_main_v37 (F := Ideal) x0 ix0 * val_main_v21 (F := Ideal) x2 x3 (ix4 h 1 p k) := by
  have e0 : idx_main_v38 (idx_main_v39 (ix3 h p k)) = ix4 h 0 p k := by
    funext a
    apply Fin.ext
    match a with
    | ⟨0, _⟩ => show ((h.val * 16384 + p.val) * 16384 + k.val) / 268435456 = h.val; omega
    | ⟨1, _⟩ => rfl
    | ⟨2, _⟩ => show ((h.val * 16384 + p.val) * 16384 + k.val) / 16384 % 16384 = p.val; omega
    | ⟨3, _⟩ => show ((h.val * 16384 + p.val) * 16384 + k.val) % 16384 = k.val; omega
  have e1 : idx_main_v40 (idx_main_v41 (ix3 h p k)) = ix4 h 1 p k := by
    funext a
    apply Fin.ext
    match a with
    | ⟨0, _⟩ => show ((h.val * 16384 + p.val) * 16384 + k.val) / 268435456 = h.val; omega
    | ⟨1, _⟩ => rfl
    | ⟨2, _⟩ => show ((h.val * 16384 + p.val) * 16384 + k.val) / 16384 % 16384 = p.val; omega
    | ⟨3, _⟩ => show ((h.val * 16384 + p.val) * 16384 + k.val) % 16384 = k.val; omega
  have e2 : idx_main_v42 (ix3 h p k) = ix0 := funext fun a => a.elim0
  rw [val_main_v44_apply, val_main_v39_apply, val_main_v38_apply, val_main_v43_apply, val_main_v42_apply, val_main_v41_apply, val_main_v40_apply, e0, e1, e2]
  rfl

/-- The attended value is the first average less the factor times the second. -/
theorem out_real (hq : ∀ i, ∃ r : ℝ, x2 i = r) (hk : ∀ i, ∃ r : ℝ, x3 i = r) (h : Fin 4) (p : Fin 16384) (e : Fin 128) (s : Fin 2 → ℕ → ℝ) (w : ℕ → ℝ)
    (lam : ℝ) (hl : factor (fun a b => x0 (ix2 a b)) = lam)
    (hs : ∀ i, ∀ k : Fin 16384, dots i (fun r => x2 (ix3 h r p)) (fun r => x3 (ix3 h k r)) = s i k)
    (hw : ∀ k : Fin 16384, x4 (ix4 h ⟨k / 512, by omega⟩ e ⟨k % 512, by omega⟩) = (w k : EReal)) :
    val_main_v45 (F := Ideal) x0 x2 x3 x4 (ix3 h e p) = ((avg (s 0) w - lam * avg (s 1) w : ℝ) : EReal) := by
  have hr : ∀ i, ∃ r : ℝ, val_main_v7 (F := Ideal) x2 x3 i = r := fun i => by
    have : i = ix4 (i 0) (i 1) (i 2) (i 3) := by
      funext a; match a with | ⟨0, _⟩ => rfl | ⟨1, _⟩ => rfl | ⟨2, _⟩ => rfl | ⟨3, _⟩ => rfl
    rw [this]
    exact ⟨_, score_real x2 x3 hq hk _ _ _ _⟩
  obtain ⟨M, hM⟩ := soft_real x2 x3 h 0 p hr (s 0) (fun k => by rw [score_real x2 x3 hq hk, hs])
  obtain ⟨N, hN⟩ := soft_real x2 x3 h 1 p hr (s 1) (fun k => by rw [score_real x2 x3 hq hk, hs])
  have el : ∀ k, lidx_main_v45 (ix3 h e p) k = ix3 h k e := fun k => by
    funext a; match a with | ⟨0, _⟩ => rfl | ⟨1, _⟩ => rfl | ⟨2, _⟩ => rfl
  have er : ∀ k, ridx_main_v45 (ix3 h e p) k = ix3 h p k := fun k => by
    funext a; match a with | ⟨0, _⟩ => rfl | ⟨1, _⟩ => rfl | ⟨2, _⟩ => rfl
  rw [val_main_v45_apply, ← avg_exp (s 0) w M, ← avg_exp (s 1) w N, Finset.mul_sum, ← Finset.sum_sub_distrib, Finset.sum_range, ← KernelIdeal.Attn.coe_sum]
  refine Finset.sum_congr rfl fun k _ => ?_
  rw [el, er, value_apply, hw, diff_apply, hM, hN, lam_apply, hl, ← EReal.coe_mul, ← EReal.coe_sub, ← EReal.coe_mul, EReal.coe_eq_coe_iff]
  ring

/-- The result: the attended values normalised by their root mean square over the head, times the gain and 0.8. -/
theorem result_apply (h : Fin 4) (e : Fin 128) (p : Fin 16384) :
    val_main_v63 (F := Ideal) x0 x1 x2 x3 x4 (ix2 p ⟨128 * h + e, by omega⟩)
      = val_main_v45 (F := Ideal) x0 x2 x3 x4 (ix3 h e p)
          * Ideal.rsqrt (Ideal.div (∑ x, val_main_v45 (F := Ideal) x0 x2 x3 x4 (ix3 h x p) * val_main_v45 (F := Ideal) x0 x2 x3 x4 (ix3 h x p))
              (Ideal.ofBits FTy.f32 1124073472#32) + Ideal.ofBits FTy.f32 925353388#32)
          * x1 (ix1 e) * Ideal.ofBits FTy.f32 1061997773#32 := by
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46
    val_main_cst_6 val_main_cst_7 val_main_cst_8 val_main_cst_9
  generalize val_main_v45 (F := Ideal) x0 x2 x3 x4 = s
  pointwise []

end Cert.ReferenceIdeal.Attn

end
-- ==== Proof.Point.lean ====
module

public import proofs.«01_k».proof.Proof.Block
public import proofs.«01_k».proof.Proof.Attend
public import proofs.«01_k».proof.Proof.Ref
public import proofs.«01_k».proof.Pre_finite
public import Idealize.ShloMosaic.Lib.Pipeline.ValueKit

@[expose] public section

set_option maxRecDepth 16384

noncomputable section

namespace Cert.Attn

open Idealize.ShloMosaic

/-- A magnitude below plus infinity is a real's. -/
theorem finite_of_lt (x : EReal) (h : FloatOps.cmpf (F := Ideal) (φ := .f32) .olt (FloatOps.hostAbsf (F := Ideal) (φ := .f32) x) (FloatOps.ofBits .f32 0x7F800000#32) = 1#1) :
    ∃ r : ℝ, x = r := by
  have ht : Ideal.ofBits .f32 0x7F800000#32 = ⊤ := by simp [Ideal.ofBits, Ideal.ieee]
  have h' : max x (-x) < ⊤ := by
    by_contra hc
    have : FloatOps.cmpf (F := Ideal) (φ := .f32) .olt (FloatOps.hostAbsf (F := Ideal) (φ := .f32) x) (FloatOps.ofBits .f32 0x7F800000#32) = 0#1 := by
      show BitVec.ofBool (decide (max x (-x) < Ideal.ofBits .f32 0x7F800000#32)) = 0#1
      rw [ht, decide_eq_false hc]
      rfl
    rw [this] at h
    exact absurd h (by decide)
  induction x using EReal.rec with
  | bot => simp at h'
  | coe r => exact ⟨r, rfl⟩
  | top => simp at h'

/-- The side conditions of the precondition's own operations. -/
theorem finite_facts : Cert.Pre_finite.Facts where
  bcast_S_S4x64 := by decide
  bitsLt_bf16_f32 := by decide
  bcast_S_S4x128x16384 := by decide
  bcast_S_S4x16384x128 := by decide
  bcast_S_S4x32x128x512 := by decide

end Cert.Attn

namespace Cert.KernelIdeal.Attn

open Cert.KernelIdeal Cert.KernelIdeal.Gen Idealize.ShloMosaic Cert.Attn

/-- One element of a block's output is the reference's at the block's place: query block `i` of head `h`. -/
theorem point (b0 : Vec Ideal S4x64 .f32) (b1 : Vec Ideal S128x1 .f32) (b2 : Vec Ideal S1x128x256 .bf16) (b3 : Vec Ideal S1x16384x128 .bf16)
    (b4 : Vec Ideal S1x32x128x512 .bf16) (X0 : Vec Ideal S4x64 .f32) (X1 : Vec Ideal S128 .f32) (X2 : Vec Ideal S4x128x16384 .bf16)
    (X3 : Vec Ideal S4x16384x128 .bf16) (X4 : Vec Ideal S4x32x128x512 .bf16) (h : Fin 4) (i : ℕ) (hi : i < 64)
    (h0 : ∀ u v, b0 (ix2 u v) = X0 (ix2 u v)) (h1 : ∀ e, b1 (ix2 e 0) = X1 (ix1 e))
    (h2 : ∀ r (j : Fin 256), b2 (ix3 0 r j) = X2 (ix3 h r ⟨256 * i + j, by omega⟩))
    (h3 : ∀ k r, b3 (ix3 0 k r) = X3 (ix3 h k r)) (h4 : ∀ n e k, b4 (ix4 0 n e k) = X4 (ix4 h n e k))
    (f0 : ∀ i, ∃ r : ℝ, X0 i = r) (f2 : ∀ i, ∃ r : ℝ, X2 i = r) (f3 : ∀ i, ∃ r : ℝ, X3 i = r) (f4 : ∀ i, ∃ r : ℝ, X4 i = r) (j : Fin 256) (e : Fin 128) :
    attend b0 b1 b2 b3 b4 (ix2 j e)
      = Cert.ReferenceIdeal.Read.val_main_v63 (F := Ideal) X0 X1 X2 X3 X4 (ix2 ⟨256 * i + j, by omega⟩ ⟨128 * h + e, by omega⟩) := by
  obtain ⟨lam, hl⟩ := factor_real (fun u v => X0 (ix2 u v)) fun u v => f0 _
  have g2 : ∀ i, ∃ r : ℝ, b2 i = r := fun y => by
    rw [show y = ix3 0 (y 1) (y 2) by
      funext a; match a with | ⟨0, _⟩ => exact Fin.ext (Nat.lt_one_iff.mp (y 0).isLt) | ⟨1, _⟩ => rfl | ⟨2, _⟩ => rfl]
    exact (h2 (y 1) (y 2)) ▸ f2 _
  have g3 : ∀ i, ∃ r : ℝ, b3 i = r := fun y => by
    rw [show y = ix3 0 (y 1) (y 2) by
      funext a; match a with | ⟨0, _⟩ => exact Fin.ext (Nat.lt_one_iff.mp (y 0).isLt) | ⟨1, _⟩ => rfl | ⟨2, _⟩ => rfl]
    exact (h3 (y 1) (y 2)) ▸ f3 _
  let p : Fin 16384 := ⟨256 * i + j, by omega⟩
  let s : Fin 2 → ℕ → ℝ := fun a k => if hk : k < 16384 then dots a (fun r => X2 (ix3 h r p)) (fun r => X3 (ix3 h ⟨k, hk⟩ r)) else 0
  let w : Fin 128 → ℕ → ℝ := fun e k =>
    if hk : k < 16384 then EReal.toReal (X4 (ix4 h ⟨k / 512, by omega⟩ e ⟨k % 512, by omega⟩)) else 0
  have hs : ∀ a, ∀ k : Fin 16384, dots a (fun r => X2 (ix3 h r p)) (fun r => X3 (ix3 h k r)) = s a k := fun a k => by
    simp only [s, k.isLt, dif_pos]
  have hw : ∀ e, ∀ k : Fin 16384, X4 (ix4 h ⟨k / 512, by omega⟩ e ⟨k % 512, by omega⟩) = (w e k : EReal) := fun e k => by
    obtain ⟨r, hr⟩ := f4 (ix4 h ⟨k / 512, by omega⟩ e ⟨k % 512, by omega⟩)
    simp only [w, k.isLt, dif_pos]
    rw [hr, EReal.toReal_coe]
  have ho : ∀ x, Cert.ReferenceIdeal.Read.val_main_v45 (F := Ideal) X0 X2 X3 X4 (ix3 h x p) = ((avg (s 0) (w x) - lam * avg (s 1) (w x) : ℝ) : EReal) :=
    fun x => Cert.ReferenceIdeal.Attn.out_real X0 X2 X3 X4 f2 f3 h p x s (w x) lam hl hs (hw x)
  rw [Cert.ReferenceIdeal.Attn.result_apply X0 X1 X2 X3 X4 h e p, ← h1 e]
  exact attend_apply b0 b1 b2 b3 b4 g2 g3 j e s w lam (by simp only [h0]; exact hl)
    (fun a k => by simp only [h2, h3]; exact hs a k) (fun e k => by rw [h4]; exact hw e k)
    (fun x => Cert.ReferenceIdeal.Read.val_main_v45 (F := Ideal) X0 X2 X3 X4 (ix3 h x p)) ho

end Cert.KernelIdeal.Attn

end
-- ==== Proof.Final.lean ====
module

public import proofs.«01_k».proof.Proof.Point
public import proofs.«01_k».proof.Defs
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ)

/-- Which block of each array a grid point takes: point `t` is query block `t % 64` of head `t / 64`. -/
theorem idx : ∀ t : Fin cfg0.N, win0_0.index t = ![0, 0] ∧ win0_1.index t = ![0, 0] ∧ win0_2.index t = ![t.val / 64, 0, t.val % 64]
    ∧ win0_3.index t = ![t.val / 64, 0, 0] ∧ win0_4.index t = ![t.val / 64, 0, 0, 0] ∧ win0_5.index t = ![t.val % 64, t.val / 64] ∧ t.val < 256 :=
  (by decide +kernel : ∀ t : Fin grid0.N, _)

/-- Every entry of an array is a real number. -/
def IsReal {ι : Type} (x : ι → EReal) : Prop := ∀ i, ∃ r : ℝ, x i = r

/-- The finite arguments, from the precondition. -/
theorem args_finite (hm : letI := finite_facts; Cert.Pre_KernelIdeal_finite m) (c : Dev nD) :
    IsReal (ι := S4x64.Idx) (m ((c : Thread nD τ).loc main_arg0))
    ∧ IsReal (ι := S4x128x16384.Idx) (m ((c : Thread nD τ).loc main_arg2))
    ∧ IsReal (ι := S4x16384x128.Idx) (m ((c : Thread nD τ).loc main_arg3))
    ∧ IsReal (ι := S4x32x128x512.Idx) (m ((c : Thread nD τ).loc main_arg4)) := by
  obtain ⟨h0, h2, h3, h4⟩ := hm c
  exact ⟨fun i => finite_of_lt _ (congrFun h0 i), fun i => finite_of_lt _ (congrFun h2 i), fun i => finite_of_lt _ (congrFun h3 i),
    fun i => finite_of_lt _ (congrFun h4 i)⟩

/-- The output array after the run is the reference's result. -/
theorem final (hm : letI := finite_facts; Cert.Pre_KernelIdeal_finite m) (c : Dev nD) :
    (dats m 0 c).arrAt 5 cfg0.N = Cert.ReferenceIdeal.Read.val_main_v63 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, outsAt_eq]
  obtain ⟨f0, f2, f3, f4⟩ := args_finite m hm c
  obtain ⟨e0, e1, e2, e3, e4, e5, ht⟩ := idx t
  have hy : y = ix2 (y 0) (y 1) := by funext a; match a with | ⟨0, _⟩ => rfl | ⟨1, _⟩ => rfl
  have hy0 : (y 0).val < 256 := (y 0).isLt
  have hy1 : (y 1).val < 128 := (y 1).isLt
  have hemb : ((cfg0.win 5).blk t).view.emb y = ix2 (⟨256 * (t.val % 64) + (y 0).val, by omega⟩ : Fin 16384)
      (⟨128 * (t.val / 64) + (y 1).val, by omega⟩ : Fin 512) := by
    blk_ext [idx t]
  rw [hemb]
  refine Eq.trans (congrArg _ hy) ?_
  refine point (iblk m c 0 t) (iblk m c 1 t) (iblk m c 2 t) (iblk m c 3 t) (iblk m c 4 t) _ _ _ _ _ ⟨t.val / 64, by omega⟩ (t.val % 64) (by omega)
    ?_ ?_ ?_ ?_ ?_ f0 f2 f3 f4 (y 0) (y 1)
  · intro u v; blk_ext! [iblk, V, idx t]
  · intro e; blk_ext! [iblk, V, idx t]
  · intro r j; blk_ext! [iblk, V, idx t]
  · intro k r; blk_ext! [iblk, V, idx t]
  · intro n e k; blk_ext! [iblk, V, idx t]

end Cert.KernelIdeal.Attn

end
-- ==== Proof.FfnBlock.lean ====
module

public import proofs.«01_k».proof.Proof.Gen.Kernel2Ideal.Value
public import Idealize.ShloMosaic.Lib.Pipeline.ReadBack
public import Idealize.ShloMosaic.Lib.Pipeline.ValueKit
public import Idealize.ShloMosaic.Lib.Pointwise

@[expose] public section

set_option maxRecDepth 16384

noncomputable section

/-- One entry of a normalised row: `z` less its mean, over its deviation, scaled by `g` and shifted by `b`. -/
def Cert.rowNorm (z : Fin 1024 → EReal) (g b : EReal) (e : Fin 1024) : EReal :=
  let n := Idealize.ShloMosaic.Ideal.ofBits .f32 1149239296#32
  let μ := Idealize.ShloMosaic.Ideal.div (∑ x, z x) n
  (z e - μ) * Idealize.ShloMosaic.Ideal.rsqrt (Idealize.ShloMosaic.Ideal.div (∑ x, (z x - μ) * (z x - μ)) n
    + Idealize.ShloMosaic.Ideal.ofBits .f32 925353388#32) * g + b

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The tile's rows with eight rows of the tile before above them and eight rows of the tile after below. -/
def stack (i : grid0.Coords) (x0 : Vec Ideal S512x1024 .f32) (x1 x2 : Vec Ideal S8x1024 .f32) : Vec Ideal S528x1024 .bf16 :=
  View.canon [⟨Rect.unit ![520, 0] ![8, 1024] inb_S528x1024_S8x1024_520_0, k0_pay4 i x2⟩,
    ⟨Rect.unit ![8, 0] ![512, 1024] inb_S528x1024_S512x1024_8_0, k0_pay3 x0⟩,
    ⟨Rect.unit ![0, 0] ![8, 1024] inb_S528x1024_S8x1024_0_0, k0_pay2 i x1⟩]

/-- An index of a piece of full rows, from its row and its column. -/
theorem at_col {d : ℕ} (x : (⟨2, ![d, 1024]⟩ : Shape).Idx) (k : Fin 1024) (h : k.val = 0 + (x 1).val) : x = ix2 (x 0) k := by
  funext a
  match a with
  | ⟨0, _⟩ => rfl
  | ⟨1, _⟩ => exact Fin.ext (by show (x 1).val = k.val; omega)

/-- An entry of the stacked rows is `v` when the one piece that holds its row has `v` there. -/
theorem stack_row (i : grid0.Coords) (x0 : Vec Ideal S512x1024 .f32) (x1 x2 : Vec Ideal S8x1024 .f32) (n : Fin 528) (k : Fin 1024) (v : EReal)
    (h1 : ∀ j : Fin 8, n.val = j.val → k0_pay2 i x1 (ix2 j k) = v) (h0 : ∀ j : Fin 512, n.val = 8 + j.val → k0_pay3 x0 (ix2 j k) = v)
    (h2 : ∀ j : Fin 8, n.val = 520 + j.val → k0_pay4 i x2 (ix2 j k) = v) : stack i x0 x1 x2 (ix2 n k) = v := by
  refine View.canon_eq_of_allAt _ _ _ ?_ ?_
  · have hn := n.isLt
    have hk := k.isLt
    by_cases a : n.val < 8
    · refine ⟨_, List.mem_cons_of_mem _ (List.mem_cons_of_mem _ List.mem_cons_self), ?_⟩
      refine (Rect.mem_set_unit (inb := inb_S528x1024_S8x1024_0_0)).mpr fun a => ?_
      match a with
      | ⟨0, _⟩ => show 0 ≤ n.val ∧ n.val < 0 + 8; omega
      | ⟨1, _⟩ => show 0 ≤ k.val ∧ k.val < 0 + 1024; omega
    by_cases b : n.val < 520
    · refine ⟨_, List.mem_cons_of_mem _ List.mem_cons_self, ?_⟩
      refine (Rect.mem_set_unit (inb := inb_S528x1024_S512x1024_8_0)).mpr fun a => ?_
      match a with
      | ⟨0, _⟩ => show 8 ≤ n.val ∧ n.val < 8 + 512; omega
      | ⟨1, _⟩ => show 0 ≤ k.val ∧ k.val < 0 + 1024; omega
    · refine ⟨_, List.mem_cons_self, ?_⟩
      refine (Rect.mem_set_unit (inb := inb_S528x1024_S8x1024_520_0)).mpr fun a => ?_
      match a with
      | ⟨0, _⟩ => show 520 ≤ n.val ∧ n.val < 520 + 8; omega
      | ⟨1, _⟩ => show 0 ≤ k.val ∧ k.val < 0 + 1024; omega
  · refine View.allAt_cons_unit _ _ _ _ _ ?_ (View.allAt_cons_unit _ _ _ _ _ ?_ (View.allAt_cons_unit _ _ _ _ _ ?_ (View.allAt_nil _ _)))
    · intro x hx
      refine (congrArg _ (at_col x k (hx 1))).trans (h2 (x 0) (by simpa using hx 0))
    · intro x hx
      refine (congrArg _ (at_col x k (hx 1))).trans (h0 (x 0) (by simpa using hx 0))
    · intro x hx
      refine (congrArg _ (at_col x k (hx 1))).trans (h1 (x 0) (by simpa using hx 0))

/-- What a grid point leaves in its output block, from the blocks it reads. -/
def block (i : grid0.Coords) (x0 : Vec Ideal S512x1024 .f32) (x1 x2 : Vec Ideal S8x1024 .f32) (x3 : Vec Ideal S1024x5632 .bf16)
    (x4 : Vec Ideal S3x5632 .f32) (x5 : Vec Ideal S2816x1024 .bf16) (x6 x7 : Vec Ideal S1x1024 .f32) : Vec Ideal S512x1024 .f32 :=
  let hx := stack i x0 x1 x2
  let u0 := View.ld x3 (Rect.unit ![0, 0] ![1024, 2816] inb_S1024x5632_S1024x2816_0_0)
  let u1 := View.ld x3 (Rect.unit ![0, 2816] ![1024, 2816] inb_S1024x5632_S1024x2816_0_2816)
  let c0 := View.ld x4 (Rect.unit ![0, 0] ![3, 2816] inb_S3x5632_S3x2816_0_0)
  let c1 := View.ld x4 (Rect.unit ![0, 2816] ![3, 2816] inb_S3x5632_S3x2816_0_2816)
  k0_pay1 (k0_pay8 x0 hx (k0_pay5 hx u0) c0 (k0_pay6 hx u0) (k0_pay7 hx u0 c0) u1 c1 x5) x6 x7

/-- The block a grid point writes is `block` of the blocks it reads. -/
theorem outsAt_eq (c : Dev nD) (t : Fin cfg0.N) :
    outsAt0 m c t = block (grid0.coords t) (iblk m c 0 t) (iblk m c 1 t) (iblk m c 2 t) (iblk m c 3 t) (iblk m c 4 t) (iblk m c 5 t) (iblk m c 6 t)
      (iblk m c 7 t) := by
  unfold outsAt0 out0_A_8
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  rw [View.read_writes_junk_eq_canon]
  unfold kernelRun0_A
  dsimp only
  sl_unfold_run_names
  have hs : (View.whole cc0_scratch0).readCov
      [⟨Rect.unit ![520, 0] ![8, 1024] inb_S528x1024_S8x1024_520_0, k0_pay4 (F := Ideal) (grid0.coords t) x2⟩,
        ⟨Rect.unit ![8, 0] ![512, 1024] inb_S528x1024_S512x1024_8_0, k0_pay3 (F := Ideal) x0⟩,
        ⟨Rect.unit ![0, 0] ![8, 1024] inb_S528x1024_S8x1024_0_0, k0_pay2 (F := Ideal) (grid0.coords t) x1⟩]
      (Rect.unit ![0, 0] ![528, 1024] inb_S528x1024_S528x1024_0_0).toLoadRect = stack (grid0.coords t) x0 x1 x2 := by
    rw [View.readCov_eq_canon']
    exact View.ld_unit_lit' _ _ (by decide)
  simp (disch := decide) only [View.canon_cons_unit_lit', ↓ View.readCov_skip, View.readAt_eq_ld, Memref.IsWhole.read_unread, View.ld_unit_lit']
  erw [hs]
  rfl

/-- The layer norm, read at an entry. -/
theorem norm_at (x : FVec Ideal S512x1024 .f32) (g b : Vec Ideal S1x1024 .f32) (j : Fin 512) (e : Fin 1024) :
    k0_pay1 x g b (ix2 j e) = Cert.rowNorm (fun k => x (ix2 j k)) (g (ix2 0 e)) (b (ix2 0 e)) e := by
  unfold_payloads
  pointwise []
  rfl

/-- The row above the tile, from the tile before: zero at the first tile. -/
theorem above_at (i : grid0.Coords) (x : Vec Ideal S8x1024 .f32) (j : Fin 8) (k : Fin 1024) :
    k0_pay2 i x (ix2 j k) = if (i 0).val = 0 then 0 else x (ix2 j k) := by
  unfold_payloads
  pointwise []
  have h : ∀ t : Fin 32, Scalar.cmpi .sgt (BitVec.ofNat 32 t.val) 0#32 = if t.val = 0 then 0#1 else 1#1 := by decide
  rw [h (i 0)]
  split <;> rfl

/-- The row below the tile, from the tile after: zero at the last tile. -/
theorem below_at (i : grid0.Coords) (x : Vec Ideal S8x1024 .f32) (j : Fin 8) (k : Fin 1024) :
    k0_pay4 i x (ix2 j k) = if (i 0).val = 31 then 0 else x (ix2 j k) := by
  unfold_payloads
  pointwise []
  have h : ∀ t : Fin 32, Scalar.cmpi .slt (BitVec.ofNat 32 t.val) 31#32 = if t.val = 31 then 0#1 else 1#1 := by decide
  rw [h (i 0)]
  split <;> rfl

/-- The tile's own row. -/
theorem own_at (x : Vec Ideal S512x1024 .f32) (j : Fin 512) (k : Fin 1024) : k0_pay3 x (ix2 j k) = x (ix2 j k) := by
  unfold_payloads
  pointwise []

/-- A column's three taps over three rows of the product with the widening matrix. -/
def conv (hx : Vec Ideal S528x1024 .bf16) (x3 : Vec Ideal S1024x5632 .bf16) (x4 : Vec Ideal S3x5632 .f32) (j : Fin 512) (q : Fin 5632) : EReal :=
  x4 (ix2 0 q) * ∑ k : Fin 1024, hx (ix2 (⟨7 + j.val, by omega⟩ : Fin 528) k) * x3 (ix2 k q)
    + x4 (ix2 1 q) * ∑ k : Fin 1024, hx (ix2 (⟨8 + j.val, by omega⟩ : Fin 528) k) * x3 (ix2 k q)
    + x4 (ix2 2 q) * ∑ k : Fin 1024, hx (ix2 (⟨9 + j.val, by omega⟩ : Fin 528) k) * x3 (ix2 k q)

/-- Half of `x (1 + erf (x c))`, `c` the rounded reciprocal root of two. -/
def gelu (x : EReal) : EReal :=
  Ideal.ofBits FTy.f32 1056964608#32 * x * (1 + Ideal.erf (x * Ideal.ofBits FTy.f32 1060439283#32))

/-- An entry of the block before the layer norm. -/
theorem body_at (x0 : Vec Ideal S512x1024 .f32) (hx : Vec Ideal S528x1024 .bf16) (x3 : Vec Ideal S1024x5632 .bf16)
    (x4 : Vec Ideal S3x5632 .f32) (x5 : Vec Ideal S2816x1024 .bf16) (j : Fin 512) (e : Fin 1024) :
    k0_pay8 x0 hx (k0_pay5 hx (View.ld x3 (Rect.unit ![0, 0] ![1024, 2816] inb_S1024x5632_S1024x2816_0_0)))
        (View.ld x4 (Rect.unit ![0, 0] ![3, 2816] inb_S3x5632_S3x2816_0_0))
        (k0_pay6 hx (View.ld x3 (Rect.unit ![0, 0] ![1024, 2816] inb_S1024x5632_S1024x2816_0_0)))
        (k0_pay7 hx (View.ld x3 (Rect.unit ![0, 0] ![1024, 2816] inb_S1024x5632_S1024x2816_0_0))
          (View.ld x4 (Rect.unit ![0, 0] ![3, 2816] inb_S3x5632_S3x2816_0_0)))
        (View.ld x3 (Rect.unit ![0, 2816] ![1024, 2816] inb_S1024x5632_S1024x2816_0_2816))
        (View.ld x4 (Rect.unit ![0, 2816] ![3, 2816] inb_S3x5632_S3x2816_0_2816)) x5 (ix2 j e)
      = Ideal.ofBits FTy.f32 1068827891#32 * x0 (ix2 j e)
        + ∑ q : Fin 2816, gelu (conv hx x3 x4 j ⟨q.val, by omega⟩) * conv hx x3 x4 j ⟨2816 + q.val, by omega⟩ * x5 (ix2 q e) := by
  have l0 : ∀ (k : Fin 1024) (q : Fin 2816), View.ld x3 (Rect.unit ![0, 0] ![1024, 2816] inb_S1024x5632_S1024x2816_0_0) (ix2 k q)
      = x3 (ix2 k ⟨q.val, by omega⟩) := fun k q => View.ld_unit_apply_of _ _ _ _ _ _ fun a => by
    match a with | ⟨0, _⟩ => exact (Nat.zero_add _).symm | ⟨1, _⟩ => exact (Nat.zero_add _).symm
  have l1 : ∀ (k : Fin 1024) (q : Fin 2816), View.ld x3 (Rect.unit ![0, 2816] ![1024, 2816] inb_S1024x5632_S1024x2816_0_2816) (ix2 k q)
      = x3 (ix2 k ⟨2816 + q.val, by omega⟩) := fun k q => View.ld_unit_apply_of _ _ _ _ _ _ fun a => by
    match a with | ⟨0, _⟩ => exact (Nat.zero_add _).symm | ⟨1, _⟩ => rfl
  have w0 : ∀ (k : Fin 3) (q : Fin 2816), View.ld x4 (Rect.unit ![0, 0] ![3, 2816] inb_S3x5632_S3x2816_0_0) (ix2 k q)
      = x4 (ix2 k ⟨q.val, by omega⟩) := fun k q => View.ld_unit_apply_of _ _ _ _ _ _ fun a => by
    match a with | ⟨0, _⟩ => exact (Nat.zero_add _).symm | ⟨1, _⟩ => exact (Nat.zero_add _).symm
  have w1 : ∀ (k : Fin 3) (q : Fin 2816), View.ld x4 (Rect.unit ![0, 2816] ![3, 2816] inb_S3x5632_S3x2816_0_2816) (ix2 k q)
      = x4 (ix2 k ⟨2816 + q.val, by omega⟩) := fun k q => View.ld_unit_apply_of _ _ _ _ _ _ fun a => by
    match a with | ⟨0, _⟩ => exact (Nat.zero_add _).symm | ⟨1, _⟩ => rfl
  revert l0 l1 w0 w1
  generalize View.ld x3 (Rect.unit ![0, 0] ![1024, 2816] inb_S1024x5632_S1024x2816_0_0) = u0
  generalize View.ld x3 (Rect.unit ![0, 2816] ![1024, 2816] inb_S1024x5632_S1024x2816_0_2816) = u1
  generalize View.ld x4 (Rect.unit ![0, 0] ![3, 2816] inb_S3x5632_S3x2816_0_0) = c0
  generalize View.ld x4 (Rect.unit ![0, 2816] ![3, 2816] inb_S3x5632_S3x2816_0_2816) = c1
  intro l0 l1 w0 w1
  have hj := j.isLt
  have r1 : ∀ h, (⟨(8 + j.val + 528 - 1) % 528, h⟩ : Fin 528) = ⟨7 + j.val, by omega⟩ := fun h => Fin.ext (show (8 + j.val + 528 - 1) % 528 = 7 + j.val by omega)
  have r2 : ∀ h, (⟨(8 + j.val + 528 - 527) % 528, h⟩ : Fin 528) = ⟨9 + j.val, by omega⟩ := fun h => Fin.ext (show (8 + j.val + 528 - 527) % 528 = 9 + j.val by omega)
  unfold_payloads
  pointwise [dot_S528x1024_S1024x2816_S528x2816_1_0_0_1_n_n, dot_S512x2816_S2816x1024_S512x1024_1_0_0_1_n_n]
  simp only [l0, l1, w0, w1, r1, r2, gelu, conv]
  rfl

end Cert.Kernel2Ideal.Ffn

end
-- ==== Proof.FfnRef.lean ====
module

public import proofs.«01_k».proof.Proof.FfnBlock
public import proofs.«01_k».proof.Proof.Gen.Reference2Ideal.Read
public import Idealize.ShloMosaic.Lib.Pointwise

@[expose] public section

set_option maxRecDepth 16384

noncomputable section

namespace Cert.Reference2Ideal.Ffn

open Cert.Reference2Ideal Cert.Reference2Ideal.Gen Cert.Reference2Ideal.Read Idealize.ShloMosaic Idealize.ShloMosaic.TcCoe Idealize.SL.Sem
open Cert.Kernel2Ideal.Ffn (gelu)

variable (x0 : (⟨S16384x1024, .f32⟩ : BufTy).Contents (Elt Ideal)) (x1 : (⟨S1024x5632, .f32⟩ : BufTy).Contents (Elt Ideal))
  (x2 : (⟨S3x5632, .f32⟩ : BufTy).Contents (Elt Ideal)) (x3 : (⟨S2816x1024, .f32⟩ : BufTy).Contents (Elt Ideal))
  (x4 x5 : (⟨S1024, .f32⟩ : BufTy).Contents (Elt Ideal))

/-- The product with the widening matrix, a row of zeros above it and a row of zeros below it. -/
theorem padded_at (r : Fin 16386) (q : Fin 5632) : val_main_v1 (F := Ideal) x0 x1 (ix2 r q)
    = if h : 1 ≤ r.val ∧ r.val - 1 < 16384 then ∑ k : Fin 1024, x0 (ix2 (⟨r.val - 1, h.2⟩ : Fin 16384) k) * x1 (ix2 k q) else 0 := by
  have up : ∀ (r : Fin 16384), val_main_v0 (F := Ideal) x0 x1 (ix2 r q) = ∑ k : Fin 1024, x0 (ix2 r k) * x1 (ix2 k q) := fun r => by
    unfold val_main_v0
    pointwise [dot_S16384x1024_S1024x5632_S16384x5632_1_0_0_1_n_n]
  have z : FloatOps.sitofp (F := Ideal) .f32 0#32 = (0 : EReal) := by
    show (((0#32 : BitVec 32).toInt : ℝ) : EReal) = 0
    norm_num
  unfold val_main_v1 val_main_call0_v0 val_main_c
  revert up
  generalize val_main_v0 (F := Ideal) x0 x1 = y
  intro up
  pointwise []
  simp only [up, z]

/-- The taps: three consecutive rows of the padded product, each by its weight. -/
theorem conv_at (r : Fin 16384) (q : Fin 5632) : val_main_v21 (F := Ideal) x0 x1 x2 (ix2 r q)
    = x2 (ix2 0 q) * val_main_v1 (F := Ideal) x0 x1 (ix2 (⟨r.val, by omega⟩ : Fin 16386) q)
      + x2 (ix2 1 q) * val_main_v1 (F := Ideal) x0 x1 (ix2 (⟨1 + r.val, by omega⟩ : Fin 16386) q)
      + x2 (ix2 2 q) * val_main_v1 (F := Ideal) x0 x1 (ix2 (⟨2 + r.val, by omega⟩ : Fin 16386) q) := by
  unfold val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2
  generalize val_main_v1 (F := Ideal) x0 x1 = y
  pointwise []

/-- The gated activation: the exact GELU, written with `erfc`, is the one written with `erf`. -/
theorem act_at (r : Fin 16384) (q : Fin 2816) : val_main_v31 (F := Ideal) x0 x1 x2 (ix2 r q)
    = gelu (val_main_v21 (F := Ideal) x0 x1 x2 (ix2 r (⟨q.val, by omega⟩ : Fin 5632)))
      * val_main_v21 (F := Ideal) x0 x1 x2 (ix2 r (⟨2816 + q.val, by omega⟩ : Fin 5632)) := by
  unfold val_main_v31 val_main_v30 val_main_v29 val_main_v28 val_main_v27 val_main_v26 val_main_v25 val_main_v24 val_main_v23 val_main_v22
    val_main_cst val_main_cst_0
  generalize val_main_v21 (F := Ideal) x0 x1 x2 = y
  pointwise []
  rw [EReal.neg_mul, Ideal.erfc_neg, gelu]

/-- The residual sum. -/
theorem sum_at (r : Fin 16384) (e : Fin 1024) : val_main_v35 (F := Ideal) x0 x1 x2 x3 (ix2 r e)
    = Ideal.ofBits FTy.f32 1068827891#32 * x0 (ix2 r e)
      + ∑ q : Fin 2816, val_main_v31 (F := Ideal) x0 x1 x2 (ix2 r q) * x3 (ix2 q e) := by
  unfold val_main_v35 val_main_v34 val_main_v33 val_main_v32 val_main_cst_1
  generalize val_main_v31 (F := Ideal) x0 x1 x2 = y
  pointwise [dot_S16384x2816_S2816x1024_S16384x1024_1_0_0_1_n_n]

/-- The layer norm. -/
theorem norm_at (r : Fin 16384) (e : Fin 1024) : val_main_v59 (F := Ideal) x0 x1 x2 x3 x4 x5 (ix2 r e)
    = Cert.rowNorm (fun k => val_main_v35 (F := Ideal) x0 x1 x2 x3 (ix2 r k)) (x4 (ix1 e)) (x5 (ix1 e)) e := by
  unfold val_main_v59 val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41 val_main_v40 val_main_v39
    val_main_v38 val_main_v37 val_main_v36 val_main_cst_2 val_main_cst_3 val_main_cst_4 val_main_cst_5 val_main_cst_6
  generalize val_main_v35 (F := Ideal) x0 x1 x2 x3 = y
  pointwise []
  rfl

end Cert.Reference2Ideal.Ffn

end
-- ==== Proof.FfnFinal.lean ====
module

public import proofs.«01_k».proof.Proof.FfnRef
public import proofs.«01_k».proof.Defs
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Read (val_main_v1 val_main_v21 val_main_v31 val_main_v35 val_main_v59)

section Point

variable (i : grid0.Coords) (x0 : Vec Ideal S512x1024 .f32) (x1 x2 : Vec Ideal S8x1024 .f32) (x3 : Vec Ideal S1024x5632 .bf16)
    (x4 : Vec Ideal S3x5632 .f32) (x5 : Vec Ideal S2816x1024 .bf16) (x6 x7 : Vec Ideal S1x1024 .f32)
variable (A0 : (⟨S16384x1024, .f32⟩ : BufTy).Contents (Elt Ideal)) (A1 : (⟨S1024x5632, .f32⟩ : BufTy).Contents (Elt Ideal))
  (A2 : (⟨S3x5632, .f32⟩ : BufTy).Contents (Elt Ideal)) (A3 : (⟨S2816x1024, .f32⟩ : BufTy).Contents (Elt Ideal))
  (A4 A5 : (⟨S1024, .f32⟩ : BufTy).Contents (Elt Ideal))
variable (hi : (i 0).val < 32)
  (e0 : ∀ (j : Fin 512) (k : Fin 1024), x0 (ix2 j k) = A0 (ix2 (⟨512 * (i 0).val + j.val, by omega⟩ : Fin 16384) k))
  (e1 : ∀ (j : Fin 8) (k : Fin 1024), x1 (ix2 j k) = A0 (ix2 (⟨8 * (64 * (i 0).val - 1) + j.val, by omega⟩ : Fin 16384) k))
  (e2 : ∀ (j : Fin 8) (k : Fin 1024), x2 (ix2 j k) = A0 (ix2 (⟨8 * min (64 * ((i 0).val + 1)) 2047 + j.val, by omega⟩ : Fin 16384) k))
  (e3 : ∀ (k : Fin 1024) (q : Fin 5632), x3 (ix2 k q) = A1 (ix2 k q)) (e4 : ∀ (k : Fin 3) (q : Fin 5632), x4 (ix2 k q) = A2 (ix2 k q))
  (e5 : ∀ (q : Fin 2816) (e : Fin 1024), x5 (ix2 q e) = A3 (ix2 q e)) (e6 : ∀ e : Fin 1024, x6 (ix2 0 e) = A4 (ix1 e))
  (e7 : ∀ e : Fin 1024, x7 (ix2 0 e) = A5 (ix1 e))

include e0 e1 e2 e3 in
/-- The stacked rows times the widening matrix are the rows of the padded product: the row above the first tile and the row below the
last are zero, and so are their products. -/
theorem stack_up (n : Fin 528) (a : Fin 16386) (ha : a.val + 7 = 512 * (i 0).val + n.val) (h7 : 7 ≤ n.val) (h8 : n.val ≤ 520) (q : Fin 5632) :
    ∑ k : Fin 1024, stack i x0 x1 x2 (ix2 n k) * x3 (ix2 k q) = val_main_v1 (F := Ideal) A0 A1 (ix2 a q) := by
  rw [Cert.Reference2Ideal.Ffn.padded_at]
  by_cases h : 1 ≤ a.val ∧ a.val - 1 < 16384
  · rw [dif_pos h]
    refine Finset.sum_congr rfl fun k _ => ?_
    rw [e3]
    refine congrArg (· * A1 (ix2 k q)) (stack_row i x0 x1 x2 n k _ ?_ ?_ ?_)
    · intro j hj
      rw [above_at, if_neg (by omega), e1]
      exact congrArg A0 (congrArg (ix2 · k) (Fin.ext (show 8 * (64 * (i 0).val - 1) + j.val = a.val - 1 by omega)))
    · intro j hj
      rw [own_at, e0]
      exact congrArg A0 (congrArg (ix2 · k) (Fin.ext (show 512 * (i 0).val + j.val = a.val - 1 by omega)))
    · intro j hj
      rw [below_at, if_neg (by omega), e2]
      exact congrArg A0 (congrArg (ix2 · k) (Fin.ext (show 8 * min (64 * ((i 0).val + 1)) 2047 + j.val = a.val - 1 by omega)))
  · rw [dif_neg h]
    refine Finset.sum_eq_zero fun k _ => ?_
    refine (congrArg (· * x3 (ix2 k q)) (stack_row i x0 x1 x2 n k 0 ?_ ?_ ?_)).trans (zero_mul _)
    · intro j hj
      rw [above_at, if_pos (by omega)]
    · intro j hj
      omega
    · intro j hj
      rw [below_at, if_pos (by omega)]

include e0 e1 e2 e3 e4 in
/-- The taps of the tile's rows are the taps of the whole array's rows. -/
theorem conv_eq (j : Fin 512) (q : Fin 5632) : conv (stack i x0 x1 x2) x3 x4 j q
    = val_main_v21 (F := Ideal) A0 A1 A2 (ix2 (⟨512 * (i 0).val + j.val, by omega⟩ : Fin 16384) q) := by
  rw [Cert.Reference2Ideal.Ffn.conv_at, conv]
  have s := stack_up i x0 x1 x2 x3 A0 A1 hi e0 e1 e2 e3
  rw [e4, e4, e4, s ⟨7 + j.val, by omega⟩ ⟨512 * (i 0).val + j.val, by omega⟩ (by show 512 * (i 0).val + j.val + 7 = 512 * (i 0).val + (7 + j.val); omega)
      (by show 7 ≤ 7 + j.val; omega) (by show 7 + j.val ≤ 520; omega),
    s ⟨8 + j.val, by omega⟩ ⟨1 + (512 * (i 0).val + j.val), by omega⟩
      (by show 1 + (512 * (i 0).val + j.val) + 7 = 512 * (i 0).val + (8 + j.val); omega) (by show 7 ≤ 8 + j.val; omega) (by show 8 + j.val ≤ 520; omega),
    s ⟨9 + j.val, by omega⟩ ⟨2 + (512 * (i 0).val + j.val), by omega⟩
      (by show 2 + (512 * (i 0).val + j.val) + 7 = 512 * (i 0).val + (9 + j.val); omega) (by show 7 ≤ 9 + j.val; omega) (by show 9 + j.val ≤ 520; omega)]

include e0 e1 e2 e3 e4 e5 e6 e7 in
/-- An entry of the block a grid point writes is the reference's entry. -/
theorem point (j : Fin 512) (e : Fin 1024) : block i x0 x1 x2 x3 x4 x5 x6 x7 (ix2 j e)
    = val_main_v59 (F := Ideal) A0 A1 A2 A3 A4 A5 (ix2 (⟨512 * (i 0).val + j.val, by omega⟩ : Fin 16384) e) := by
  have s := conv_eq i x0 x1 x2 x3 x4 A0 A1 A2 hi e0 e1 e2 e3 e4
  rw [Cert.Reference2Ideal.Ffn.norm_at]
  unfold block
  dsimp only
  rw [norm_at, e6, e7]
  refine congrArg (fun z => Cert.rowNorm z (A4 (ix1 e)) (A5 (ix1 e)) e) (funext fun k => ?_)
  rw [body_at, Cert.Reference2Ideal.Ffn.sum_at, e0]
  refine congrArg (Ideal.ofBits FTy.f32 1068827891#32 * _ + ·) (Finset.sum_congr rfl fun q _ => ?_)
  rw [Cert.Reference2Ideal.Ffn.act_at, s, s, e5]

end Point

variable (m : (ℓ : Loc nD τ sig) → Buf (Elt Ideal) ℓ)

/-- Which block of each array a grid point takes: point `t` is row tile `t`, between the eight rows before it and the eight rows after it. -/
theorem idx : ∀ t : Fin cfg0.N, win0_0.index t = ![t.val, 0] ∧ win0_1.index t = ![64 * t.val - 1, 0] ∧ win0_2.index t = ![min (64 * (t.val + 1)) 2047, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ (grid0.coords t 0).val = t.val ∧ t.val < 32 :=
  (by decide +kernel : ∀ t : Fin grid0.N, _)

/-- The output array after the run is the reference's result. -/
theorem final (c : Dev nD) :
    (dats m 0 c).arrAt 8 cfg0.N = val_main_v59 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 8 _ (by decide +kernel) fun t _ y => ?_
  blk_simp
  rw [after0_8, outsAt_eq]
  obtain ⟨i0, i1, i2, i3, i4, i5, i6, i7, i8, hc, ht⟩ := idx t
  have hy : y = ix2 (y 0) (y 1) := by funext a; match a with | ⟨0, _⟩ => rfl | ⟨1, _⟩ => rfl
  have hy0 : (y 0).val < 512 := (y 0).isLt
  have hy1 : (y 1).val < 1024 := (y 1).isLt
  have hemb : ((cfg0.win 8).blk t).view.emb y = ix2 (⟨512 * (grid0.coords t 0).val + (y 0).val, by omega⟩ : Fin 16384) (y 1) := by
    simp only [hc]
    blk_ext [idx t]
  rw [hemb]
  refine Eq.trans (congrArg _ hy) ?_
  refine point (grid0.coords t) (iblk m c 0 t) (iblk m c 1 t) (iblk m c 2 t) (iblk m c 3 t) (iblk m c 4 t) (iblk m c 5 t) (iblk m c 6 t) (iblk m c 7 t)
    _ _ _ _ _ _ (by omega) ?_ ?_ ?_ ?_ ?_ ?_ ?_ ?_ (y 0) (y 1)
  · intro j k; simp only [hc]; blk_ext! [iblk, V, idx t]
  · intro j k; simp only [hc]; blk_ext! [iblk, V, idx t]
  · intro j k; simp only [hc]; blk_ext! [iblk, V, idx t]
  · intro k q; blk_ext! [iblk, V, idx t]
  · intro k q; blk_ext! [iblk, V, idx t]
  · intro q e; blk_ext! [iblk, V, idx t]
  · intro e; blk_ext! [iblk, V, idx t]
  · intro e; blk_ext! [iblk, V, idx t]

end Cert.Kernel2Ideal.Ffn

end
-- ==== Proof.MixBlock.lean ====
module

public import proofs.«01_k».proof.Proof.FfnBlock
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.Mix

open Cert.Kernel3Ideal Cert.Kernel3Ideal.Gen Idealize.ShloMosaic Idealize.ShloMosaic.TcCoe Idealize.SL.Sem

/-- The row above row `j` of a tile: the tile's own, or the last row before the tile, zero at the first tile. -/
def above (i : grid0.Coords) (x1 : Vec Ideal S512x512 .bf16) (x2 : Vec Ideal S8x512 .bf16) (j q : Fin 512) : EReal :=
  if j.val = 0 then if (i 0).val = 0 then 0 else x2 (ix2 7 q) else x1 (ix2 ⟨j.val - 1, by omega⟩ q)

/-- The row below row `j` of a tile: the tile's own, or the first row after the tile, zero at the last tile. -/
def below (i : grid0.Coords) (x1 : Vec Ideal S512x512 .bf16) (x3 : Vec Ideal S8x512 .bf16) (j q : Fin 512) : EReal :=
  if h : j.val = 511 then if (i 0).val = 31 then 0 else x3 (ix2 0 q) else x1 (ix2 ⟨j.val + 1, by omega⟩ q)

/-- The short convolution's output at an entry of the tile. -/
def short (i : grid0.Coords) (x1 : Vec Ideal S512x512 .bf16) (x2 x3 : Vec Ideal S8x512 .bf16) (x4 : Vec Ideal S512x512 .bf16) (x7 : Vec Ideal S3x512 .f32)
    (j q : Fin 512) : EReal :=
  x4 (ix2 j q) * (x7 (ix2 0 q) * above i x1 x2 j q + x7 (ix2 1 q) * x1 (ix2 j q) + x7 (ix2 2 q) * below i x1 x3 j q)

/-- One entry of a gate. -/
def gate (x0 : Vec Ideal S512x1024 .f32) (x8 : Vec Ideal S1024x3072 .bf16) (x9 : Vec Ideal S1x3072 .f32) (j : Fin 512) (q : Fin 3072) : EReal :=
  Ideal.logistic (∑ k : Fin 1024, x0 (ix2 j k) * x8 (ix2 k q) + x9 (ix2 0 q))

/-- One entry of the gated sum of the three branches. -/
def mix (i : grid0.Coords) (x0 : Vec Ideal S512x1024 .f32) (x1 : Vec Ideal S512x512 .bf16) (x2 x3 : Vec Ideal S8x512 .bf16)
    (x4 x5 x6 : Vec Ideal S512x512 .bf16) (x7 : Vec Ideal S3x512 .f32) (x8 : Vec Ideal S1024x3072 .bf16) (x9 : Vec Ideal S1x3072 .f32)
    (x10 : Vec Ideal S3x512x1024 .bf16) (j : Fin 512) (y : Fin 1024) : EReal :=
  gate x0 x8 x9 j ⟨y.val, by omega⟩ * ∑ q : Fin 512, short i x1 x2 x3 x4 x7 j q * x10 (ix3 0 q y)
    + gate x0 x8 x9 j ⟨1024 + y.val, by omega⟩ * ∑ q : Fin 512, x5 (ix2 j q) * x10 (ix3 1 q y)
    + gate x0 x8 x9 j ⟨2048 + y.val, by omega⟩ * ∑ q : Fin 512, x6 (ix2 j q) * x10 (ix3 2 q y)

/-- The stream, cast: itself. -/
theorem pay1_at (x0 : Vec Ideal S512x1024 .f32) (j : Fin 512) (k : Fin 1024) : k0_pay1 x0 (ix2 j k) = x0 (ix2 j k) := by
  unfold_payloads
  pointwise []

/-- The rows moved up by one. -/
theorem pay3_at (i : grid0.Coords) (x1 : Vec Ideal S512x512 .bf16) (x3 : Vec Ideal S8x512 .bf16) (j q : Fin 512) :
    k0_pay3 i x1 (View.ld x3 r0_3) (ix2 j q) = below i x1 x3 j q := by
  have l : View.ld x3 r0_3 (ix2 0 q) = x3 (ix2 0 q) := View.ld_unit_apply_of _ _ _ _ _ _ fun a => by
    match a with | ⟨0, _⟩ => rfl | ⟨1, _⟩ => exact (Nat.zero_add _).symm
  have c : ∀ t : Fin 32, Scalar.cmpi .slt (BitVec.ofNat 32 t.val) 31#32 = if t.val = 31 then 0#1 else 1#1 := by decide
  have d : IntOp.cmpi .eq (BitVec.ofNat 32 j.val) 511#32 = if j.val = 511 then 1#1 else 0#1 :=
    (by decide +kernel : ∀ j : Fin 512, IntOp.cmpi .eq (BitVec.ofNat 32 j.val) 511#32 = if j.val = 511 then 1#1 else 0#1) j
  unfold_payloads
  revert l
  generalize View.ld x3 r0_3 = v
  intro l
  pointwise []
  rw [c (i 0), d, l, below]
  by_cases h : j.val = 511
  · rw [if_pos h, dif_pos h]
    by_cases h' : (i 0).val = 31
    · rw [if_pos h', if_pos h']; rfl
    · rw [if_neg h', if_neg h']; rfl
  · rw [if_neg h, dif_neg h]
    have hj := j.isLt
    exact congrArg (fun r => x1 (ix2 r q)) (Fin.ext (show (j.val + 512 - 511) % 512 = j.val + 1 by omega))

/-- The gate of the short convolution, cast: itself. -/
theorem pay4_at (x4 : Vec Ideal S512x512 .bf16) (j q : Fin 512) : k0_pay4 x4 (ix2 j q) = x4 (ix2 j q) := by
  unfold_payloads
  pointwise []

/-- The first two taps, the first over the rows moved down by one. -/
theorem pay5_at (i : grid0.Coords) (x1 : Vec Ideal S512x512 .bf16) (x2 : Vec Ideal S8x512 .bf16) (x7 : Vec Ideal S3x512 .f32) (j q : Fin 512) :
    k0_pay5 i x1 (View.ld x2 r0_2) x7 (ix2 j q) = x7 (ix2 0 q) * above i x1 x2 j q + x7 (ix2 1 q) * x1 (ix2 j q) := by
  have l : View.ld x2 r0_2 (ix2 0 q) = x2 (ix2 7 q) := View.ld_unit_apply_of _ _ _ _ _ _ fun a => by
    match a with | ⟨0, _⟩ => rfl | ⟨1, _⟩ => exact (Nat.zero_add _).symm
  have c : ∀ t : Fin 32, Scalar.cmpi .sgt (BitVec.ofNat 32 t.val) 0#32 = if t.val = 0 then 0#1 else 1#1 := by decide
  have d : IntOp.cmpi .eq (BitVec.ofNat 32 j.val) 0#32 = if j.val = 0 then 1#1 else 0#1 :=
    (by decide +kernel : ∀ j : Fin 512, IntOp.cmpi .eq (BitVec.ofNat 32 j.val) 0#32 = if j.val = 0 then 1#1 else 0#1) j
  unfold_payloads
  revert l
  generalize View.ld x2 r0_2 = v
  intro l
  pointwise []
  rw [c (i 0), d, l, above]
  refine congrArg (x7 (ix2 0 q) * · + _) ?_
  by_cases h : j.val = 0
  · rw [if_pos h, if_pos h]
    by_cases h' : (i 0).val = 0
    · rw [if_pos h', if_pos h']; rfl
    · rw [if_neg h', if_neg h']; rfl
  · rw [if_neg h, if_neg h]
    have hj := j.isLt
    exact congrArg (fun r => x1 (ix2 r q)) (Fin.ext (show (j.val + 512 - 1) % 512 = j.val - 1 by omega))

/-- The third tap's weight. -/
theorem pay6_at (x7 : Vec Ideal S3x512 .f32) (j q : Fin 512) : k0_pay6 x7 (ix2 j q) = x7 (ix2 2 q) := by
  unfold_payloads
  pointwise []

/-- The first two gated branches. -/
theorem pay7_at (v1 : FVec Ideal S512x1024 .bf16) (v26 v29 v36 v38 : FVec Ideal S512x512 .f32) (v43 : Vec Ideal S512x512 .bf16)
    (v45 : Vec Ideal S1024x1024 .bf16) (v48 : Vec Ideal S1x1024 .f32) (v53 : Vec Ideal S1x512x1024 .bf16) (v57 : Vec Ideal S1024x1024 .bf16)
    (v60 : Vec Ideal S1x1024 .f32) (v65 : Vec Ideal S1x512x1024 .bf16) (j : Fin 512) (y : Fin 1024) :
    k0_pay7 v1 v26 v29 v36 v38 v43 v45 v48 v53 v57 v60 v65 (ix2 j y)
      = Ideal.logistic (∑ k : Fin 1024, v1 (ix2 j k) * v45 (ix2 k y) + v48 (ix2 0 y))
          * ∑ q : Fin 512, v29 (ix2 j q) * (v36 (ix2 j q) + v38 (ix2 j q) * v26 (ix2 j q)) * v53 (ix3 0 q y)
        + Ideal.logistic (∑ k : Fin 1024, v1 (ix2 j k) * v57 (ix2 k y) + v60 (ix2 0 y)) * ∑ q : Fin 512, v43 (ix2 j q) * v65 (ix3 0 q y) := by
  unfold_payloads
  pointwise [dot_S512x1024_S1024x1024_S512x1024_1_0_0_1_n_n, dot_S512x512_S512x1024_S512x1024_1_0_0_1_n_n]

/-- The third gate's product. -/
theorem pay8_at (v1 : FVec Ideal S512x1024 .bf16) (v70 : Vec Ideal S1024x1024 .bf16) (j : Fin 512) (y : Fin 1024) :
    k0_pay8 v1 v70 (ix2 j y) = ∑ k : Fin 1024, v1 (ix2 j k) * v70 (ix2 k y) := by
  unfold_payloads
  pointwise [dot_S512x1024_S1024x1024_S512x1024_1_0_0_1_n_n]

/-- The third gated branch, the output projection, the residual sum and the layer norm. -/
theorem pay9_at (x0 : Vec Ideal S512x1024 .f32) (x6 : Vec Ideal S512x512 .bf16) (v69 v72 : FVec Ideal S512x1024 .f32) (v73 : Vec Ideal S1x1024 .f32)
    (v78 : Vec Ideal S1x512x1024 .bf16) (x11 : Vec Ideal S1024x1024 .bf16) (x12 x13 : Vec Ideal S1x1024 .f32) (j : Fin 512) (e : Fin 1024) :
    k0_pay9 x0 x6 v69 v72 v73 v78 x11 x12 x13 (ix2 j e)
      = Cert.rowNorm (fun k => Ideal.ofBits FTy.f32 1068827891#32 * x0 (ix2 j k)
          + ∑ y : Fin 1024, (v69 (ix2 j y) + Ideal.logistic (v72 (ix2 j y) + v73 (ix2 0 y)) * ∑ q : Fin 512, x6 (ix2 j q) * v78 (ix3 0 q y))
            * x11 (ix2 y k)) (x12 (ix2 0 e)) (x13 (ix2 0 e)) e := by
  unfold_payloads
  pointwise [dot_S512x1024_S1024x1024_S512x1024_1_0_0_1_n_n, dot_S512x512_S512x1024_S512x1024_1_0_0_1_n_n]
  rfl

/-- What a grid point leaves in its output block, read at an entry. -/
theorem out_at (i : grid0.Coords) (x0 : Vec Ideal S512x1024 .f32) (x1 : Vec Ideal S512x512 .bf16) (x2 x3 : Vec Ideal S8x512 .bf16)
    (x4 x5 x6 : Vec Ideal S512x512 .bf16) (x7 : Vec Ideal S3x512 .f32) (x8 : Vec Ideal S1024x3072 .bf16) (x9 : Vec Ideal S1x3072 .f32)
    (x10 : Vec Ideal S3x512x1024 .bf16) (x11 : Vec Ideal S1024x1024 .bf16) (x12 x13 : Vec Ideal S1x1024 .f32) (j : Fin 512) (e : Fin 1024) :
    out0_14 i x0 x1 x2 x3 x4 x5 x6 x7 x8 x9 x10 x11 x12 x13 (ix2 j e)
      = Cert.rowNorm (fun k => Ideal.ofBits FTy.f32 1068827891#32 * x0 (ix2 j k)
          + ∑ y : Fin 1024, mix i x0 x1 x2 x3 x4 x5 x6 x7 x8 x9 x10 j y * x11 (ix2 y k)) (x12 (ix2 0 e)) (x13 (ix2 0 e)) e := by
  have w0 : ∀ (k y : Fin 1024), View.ld x8 r0_5 (ix2 k y) = x8 (ix2 k ⟨y.val, by omega⟩) := fun k y => View.ld_unit_apply_of _ _ _ _ _ _ fun a => by
    match a with | ⟨0, _⟩ => exact (Nat.zero_add _).symm | ⟨1, _⟩ => exact (Nat.zero_add _).symm
  have w1 : ∀ (k y : Fin 1024), View.ld x8 r0_8 (ix2 k y) = x8 (ix2 k ⟨1024 + y.val, by omega⟩) := fun k y => View.ld_unit_apply_of _ _ _ _ _ _ fun a => by
    match a with | ⟨0, _⟩ => exact (Nat.zero_add _).symm | ⟨1, _⟩ => rfl
  have w2 : ∀ (k y : Fin 1024), View.ld x8 r0_11 (ix2 k y) = x8 (ix2 k ⟨2048 + y.val, by omega⟩) := fun k y => View.ld_unit_apply_of _ _ _ _ _ _ fun a => by
    match a with | ⟨0, _⟩ => exact (Nat.zero_add _).symm | ⟨1, _⟩ => rfl
  have b0 : ∀ y : Fin 1024, View.ld x9 r0_6 (ix2 0 y) = x9 (ix2 0 ⟨y.val, by omega⟩) := fun y => View.ld_unit_apply_of _ _ _ _ _ _ fun a => by
    match a with | ⟨0, _⟩ => rfl | ⟨1, _⟩ => exact (Nat.zero_add _).symm
  have b1 : ∀ y : Fin 1024, View.ld x9 r0_9 (ix2 0 y) = x9 (ix2 0 ⟨1024 + y.val, by omega⟩) := fun y => View.ld_unit_apply_of _ _ _ _ _ _ fun a => by
    match a with | ⟨0, _⟩ => rfl | ⟨1, _⟩ => rfl
  have b2 : ∀ y : Fin 1024, View.ld x9 r0_12 (ix2 0 y) = x9 (ix2 0 ⟨2048 + y.val, by omega⟩) := fun y => View.ld_unit_apply_of _ _ _ _ _ _ fun a => by
    match a with | ⟨0, _⟩ => rfl | ⟨1, _⟩ => rfl
  have p0 : ∀ (q : Fin 512) (y : Fin 1024), View.ld x10 r0_7 (ix3 0 q y) = x10 (ix3 0 q y) := fun q y => View.ld_unit_apply_of _ _ _ _ _ _ fun a => by
    match a with | ⟨0, _⟩ => rfl | ⟨1, _⟩ => exact (Nat.zero_add _).symm | ⟨2, _⟩ => exact (Nat.zero_add _).symm
  have p1 : ∀ (q : Fin 512) (y : Fin 1024), View.ld x10 r0_10 (ix3 0 q y) = x10 (ix3 1 q y) := fun q y => View.ld_unit_apply_of _ _ _ _ _ _ fun a => by
    match a with | ⟨0, _⟩ => rfl | ⟨1, _⟩ => exact (Nat.zero_add _).symm | ⟨2, _⟩ => exact (Nat.zero_add _).symm
  have p2 : ∀ (q : Fin 512) (y : Fin 1024), View.ld x10 r0_13 (ix3 0 q y) = x10 (ix3 2 q y) := fun q y => View.ld_unit_apply_of _ _ _ _ _ _ fun a => by
    match a with | ⟨0, _⟩ => rfl | ⟨1, _⟩ => exact (Nat.zero_add _).symm | ⟨2, _⟩ => exact (Nat.zero_add _).symm
  unfold_out out0_14
  simp (disch := decide) only [View.canon_cons_unit_lit', View.ld_unit_lit']
  simp only [pay9_at, pay8_at, pay7_at, pay6_at, pay5_at, pay4_at, pay3_at, pay1_at, w0, w1, w2, b0, b1, b2, p0, p1, p2, mix, gate, short]

end Cert.Kernel3Ideal.Mix

end
-- ==== Proof.MixRef.lean ====
module

public import proofs.«01_k».proof.Proof.FfnBlock
public import proofs.«01_k».proof.Proof.Gen.Reference3Ideal.Read
public import Idealize.ShloMosaic.Lib.Pointwise

@[expose] public section

set_option maxRecDepth 16384

noncomputable section

namespace Cert.Reference3Ideal.Mix

open Cert.Reference3Ideal Cert.Reference3Ideal.Gen Cert.Reference3Ideal.Read Idealize.ShloMosaic Idealize.ShloMosaic.TcCoe Idealize.SL.Sem

variable (x0 : (⟨S16384x1024, .f32⟩ : BufTy).Contents (Elt Ideal)) (x1 x2 x3 x4 : (⟨S16384x512, .bf16⟩ : BufTy).Contents (Elt Ideal))
  (x5 : (⟨S3x512, .f32⟩ : BufTy).Contents (Elt Ideal)) (x6 : (⟨S1024x3072, .f32⟩ : BufTy).Contents (Elt Ideal))
  (x7 : (⟨S3072, .f32⟩ : BufTy).Contents (Elt Ideal)) (x8 : (⟨S3x512x1024, .f32⟩ : BufTy).Contents (Elt Ideal))
  (x9 : (⟨S1024x1024, .f32⟩ : BufTy).Contents (Elt Ideal)) (x10 x11 : (⟨S1024, .f32⟩ : BufTy).Contents (Elt Ideal))

/-- The short convolution's input, a row of zeros above it and a row of zeros below it. -/
theorem padded_at (r : Fin 16386) (q : Fin 512) : val_main_v2 (F := Ideal) x1 (ix2 r q)
    = if h : 1 ≤ r.val ∧ r.val - 1 < 16384 then x1 (ix2 (⟨r.val - 1, h.2⟩ : Fin 16384) q) else 0 := by
  have z : FloatOps.sitofp (F := Ideal) .f32 0#32 = (0 : EReal) := by
    show (((0#32 : BitVec 32).toInt : ℝ) : EReal) = 0
    norm_num
  unfold val_main_v2 val_main_v1 val_main_call0_v0 val_main_c
  pointwise []
  simp only [z]

/-- The short convolution. -/
theorem short_at (r : Fin 16384) (q : Fin 512) : val_main_v23 (F := Ideal) x1 x2 x5 (ix2 r q)
    = x2 (ix2 r q) * (x5 (ix2 0 q) * val_main_v2 (F := Ideal) x1 (ix2 (⟨r.val, by omega⟩ : Fin 16386) q)
      + x5 (ix2 1 q) * val_main_v2 (F := Ideal) x1 (ix2 (⟨1 + r.val, by omega⟩ : Fin 16386) q)
      + x5 (ix2 2 q) * val_main_v2 (F := Ideal) x1 (ix2 (⟨2 + r.val, by omega⟩ : Fin 16386) q)) := by
  unfold val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4 val_main_v3 val_main_v0
  generalize val_main_v2 (F := Ideal) x1 = y
  pointwise []

/-- The three branches, projected: branch `n` from the short convolution, the differential attention or the windowed attention. -/
theorem branch_at (r : Fin 16384) (n : Fin 3) (e : Fin 1024) : val_main_v31 (F := Ideal) x1 x2 x3 x4 x5 x8 (ix3 r n e)
    = ∑ q : Fin 512, (if n.val < 1 then val_main_v23 (F := Ideal) x1 x2 x5 (ix2 r q) else if n.val - 1 < 1 then x3 (ix2 r q) else x4 (ix2 r q))
        * x8 (ix3 n q e) := by
  have ys : ∀ q : Fin 512, val_main_v29 (F := Ideal) x1 x2 x3 x4 x5 (ix3 r n q)
      = if n.val < 1 then val_main_v23 (F := Ideal) x1 x2 x5 (ix2 r q) else if n.val - 1 < 1 then x3 (ix2 r q) else x4 (ix2 r q) := fun q => by
    unfold val_main_v29 val_main_v28 val_main_v27 val_main_v26 val_main_v25 val_main_v24
    generalize val_main_v23 (F := Ideal) x1 x2 x5 = y
    pointwise []
    rfl
  unfold val_main_v31 val_main_v30
  revert ys
  generalize val_main_v29 (F := Ideal) x1 x2 x3 x4 x5 = y
  intro ys
  pointwise [dot_S3x512x1024_S16384x3x512_S3x1024x16384_1_2_2_0_0_1]
  exact Finset.sum_congr rfl fun q _ => by rw [ys, mul_comm]

/-- The gates. -/
theorem gate_at (r : Fin 16384) (n : Fin 3) (e : Fin 1024) : val_main_v42 (F := Ideal) x0 x6 x7 (ix3 r n e)
    = Ideal.logistic (∑ k : Fin 1024, x0 (ix2 r k) * x6 (ix2 k (⟨n.val * 1024 + e.val, by omega⟩ : Fin 3072))
      + x7 (ix1 (⟨n.val * 1024 + e.val, by omega⟩ : Fin 3072))) := by
  have g : ∀ q : Fin 3072, val_main_v41 (F := Ideal) x0 x6 x7 (ix2 r q) = Ideal.logistic (∑ k : Fin 1024, x0 (ix2 r k) * x6 (ix2 k q) + x7 (ix1 q)) :=
      fun q => by
    unfold val_main_v41 val_main_v40 val_main_v39 val_main_v38 val_main_v37 val_main_v36 val_main_v35 val_main_v34 val_main_v33 val_main_v32
      val_main_cst val_main_cst_0
    pointwise [dot_S16384x1024_S1024x3072_S16384x3072_1_0_0_1_n_n]
    rfl
  unfold val_main_v42
  revert g
  generalize val_main_v41 (F := Ideal) x0 x6 x7 = y
  intro g
  pointwise []
  exact g _

/-- The gated sum of the branches. -/
theorem mix_at (r : Fin 16384) (e : Fin 1024) : val_main_v44 (F := Ideal) x0 x1 x2 x3 x4 x5 x6 x7 x8 (ix2 r e)
    = val_main_v42 (F := Ideal) x0 x6 x7 (ix3 r (0 : Fin 3) e) * val_main_v31 (F := Ideal) x1 x2 x3 x4 x5 x8 (ix3 r (0 : Fin 3) e)
      + val_main_v42 (F := Ideal) x0 x6 x7 (ix3 r (1 : Fin 3) e) * val_main_v31 (F := Ideal) x1 x2 x3 x4 x5 x8 (ix3 r (1 : Fin 3) e)
      + val_main_v42 (F := Ideal) x0 x6 x7 (ix3 r (2 : Fin 3) e) * val_main_v31 (F := Ideal) x1 x2 x3 x4 x5 x8 (ix3 r (2 : Fin 3) e) := by
  unfold val_main_v44 val_main_v43 val_main_cst_1
  generalize val_main_v42 (F := Ideal) x0 x6 x7 = y
  generalize val_main_v31 (F := Ideal) x1 x2 x3 x4 x5 x8 = z
  pointwise []
  exact Fin.sum_univ_three _

/-- The residual sum. -/
theorem sum_at (r : Fin 16384) (e : Fin 1024) : val_main_v48 (F := Ideal) x0 x1 x2 x3 x4 x5 x6 x7 x8 x9 (ix2 r e)
    = Ideal.ofBits FTy.f32 1068827891#32 * x0 (ix2 r e)
      + ∑ y : Fin 1024, val_main_v44 (F := Ideal) x0 x1 x2 x3 x4 x5 x6 x7 x8 (ix2 r y) * x9 (ix2 y e) := by
  unfold val_main_v48 val_main_v47 val_main_v46 val_main_v45 val_main_cst_2
  generalize val_main_v44 (F := Ideal) x0 x1 x2 x3 x4 x5 x6 x7 x8 = y
  pointwise [dot_S16384x1024_S1024x1024_S16384x1024_1_0_0_1_n_n]

/-- The layer norm. -/
theorem norm_at (r : Fin 16384) (e : Fin 1024) : val_main_v72 (F := Ideal) x0 x1 x2 x3 x4 x5 x6 x7 x8 x9 x10 x11 (ix2 r e)
    = Cert.rowNorm (fun k => val_main_v48 (F := Ideal) x0 x1 x2 x3 x4 x5 x6 x7 x8 x9 (ix2 r k)) (x10 (ix1 e)) (x11 (ix1 e)) e := by
  unfold val_main_v72 val_main_v71 val_main_v70 val_main_v69 val_main_v68 val_main_v67 val_main_v66 val_main_v65 val_main_v64 val_main_v63
    val_main_v62 val_main_v61 val_main_v60 val_main_v59 val_main_v58 val_main_v57 val_main_v56 val_main_v55 val_main_v54 val_main_v53 val_main_v52
    val_main_v51 val_main_v50 val_main_v49 val_main_cst_3 val_main_cst_4 val_main_cst_5 val_main_cst_6 val_main_cst_7
  generalize val_main_v48 (F := Ideal) x0 x1 x2 x3 x4 x5 x6 x7 x8 x9 = y
  pointwise []
  rfl

end Cert.Reference3Ideal.Mix

end
-- ==== Proof.MixFinal.lean ====
module

public import proofs.«01_k».proof.Proof.MixBlock
public import proofs.«01_k».proof.Proof.MixRef
public import proofs.«01_k».proof.Defs
public import Idealize.ShloMosaic.Lib.Claim

@[expose] public section

set_option maxRecDepth 16384

noncomputable section

namespace Cert.Kernel3Ideal.Mix

open Cert.Kernel3Ideal Cert.Kernel3Ideal.Gen Idealize.ShloMosaic Idealize.ShloMosaic.TcCoe Idealize.SL.Sem
open Idealize.ShloMosaic.Pipeline (Dat)
open Cert.Reference3Ideal.Read (val_main_v2 val_main_v23 val_main_v31 val_main_v42 val_main_v44 val_main_v48 val_main_v72)

section Point

variable (i : grid0.Coords) (x0 : Vec Ideal S512x1024 .f32) (x1 : Vec Ideal S512x512 .bf16) (x2 x3 : Vec Ideal S8x512 .bf16)
    (x4 x5 x6 : Vec Ideal S512x512 .bf16) (x7 : Vec Ideal S3x512 .f32) (x8 : Vec Ideal S1024x3072 .bf16) (x9 : Vec Ideal S1x3072 .f32)
    (x10 : Vec Ideal S3x512x1024 .bf16) (x11 : Vec Ideal S1024x1024 .bf16) (x12 x13 : Vec Ideal S1x1024 .f32)
variable (A0 : (⟨S16384x1024, .f32⟩ : BufTy).Contents (Elt Ideal)) (A1 A2 A3 A4 : (⟨S16384x512, .bf16⟩ : BufTy).Contents (Elt Ideal))
  (A5 : (⟨S3x512, .f32⟩ : BufTy).Contents (Elt Ideal)) (A6 : (⟨S1024x3072, .f32⟩ : BufTy).Contents (Elt Ideal))
  (A7 : (⟨S3072, .f32⟩ : BufTy).Contents (Elt Ideal)) (A8 : (⟨S3x512x1024, .f32⟩ : BufTy).Contents (Elt Ideal))
  (A9 : (⟨S1024x1024, .f32⟩ : BufTy).Contents (Elt Ideal)) (A10 A11 : (⟨S1024, .f32⟩ : BufTy).Contents (Elt Ideal))
variable (hi : (i 0).val < 32)
  (e0 : ∀ (j : Fin 512) (k : Fin 1024), x0 (ix2 j k) = A0 (ix2 (⟨512 * (i 0).val + j.val, by omega⟩ : Fin 16384) k))
  (e1 : ∀ (j q : Fin 512), x1 (ix2 j q) = A1 (ix2 (⟨512 * (i 0).val + j.val, by omega⟩ : Fin 16384) q))
  (e2 : ∀ (j : Fin 8) (q : Fin 512), x2 (ix2 j q) = A1 (ix2 (⟨8 * (64 * (i 0).val - 1) + j.val, by omega⟩ : Fin 16384) q))
  (e3 : ∀ (j : Fin 8) (q : Fin 512), x3 (ix2 j q) = A1 (ix2 (⟨8 * min (64 * ((i 0).val + 1)) 2047 + j.val, by omega⟩ : Fin 16384) q))
  (e4 : ∀ (j q : Fin 512), x4 (ix2 j q) = A2 (ix2 (⟨512 * (i 0).val + j.val, by omega⟩ : Fin 16384) q))
  (e5 : ∀ (j q : Fin 512), x5 (ix2 j q) = A3 (ix2 (⟨512 * (i 0).val + j.val, by omega⟩ : Fin 16384) q))
  (e6 : ∀ (j q : Fin 512), x6 (ix2 j q) = A4 (ix2 (⟨512 * (i 0).val + j.val, by omega⟩ : Fin 16384) q))
  (e7 : ∀ (n : Fin 3) (q : Fin 512), x7 (ix2 n q) = A5 (ix2 n q)) (e8 : ∀ (k : Fin 1024) (q : Fin 3072), x8 (ix2 k q) = A6 (ix2 k q))
  (e9 : ∀ q : Fin 3072, x9 (ix2 0 q) = A7 (ix1 q)) (e10 : ∀ (n : Fin 3) (q : Fin 512) (y : Fin 1024), x10 (ix3 n q y) = A8 (ix3 n q y))
  (e11 : ∀ y k : Fin 1024, x11 (ix2 y k) = A9 (ix2 y k)) (e12 : ∀ e : Fin 1024, x12 (ix2 0 e) = A10 (ix1 e))
  (e13 : ∀ e : Fin 1024, x13 (ix2 0 e) = A11 (ix1 e))

include e1 e2 in
/-- The row above, in the padded array. -/
theorem above_eq (j q : Fin 512) : above i x1 x2 j q = val_main_v2 (F := Ideal) A1 (ix2 (⟨512 * (i 0).val + j.val, by omega⟩ : Fin 16386) q) := by
  rw [Cert.Reference3Ideal.Mix.padded_at, above]
  by_cases h : 1 ≤ 512 * (i 0).val + j.val ∧ 512 * (i 0).val + j.val - 1 < 16384
  · rw [dif_pos h]
    by_cases hj : j.val = 0
    · rw [if_pos hj, if_neg (by omega), e2]
      exact congrArg A1 (congrArg (ix2 · q) (Fin.ext (show 8 * (64 * (i 0).val - 1) + 7 = 512 * (i 0).val + j.val - 1 by omega)))
    · rw [if_neg hj, e1]
      exact congrArg A1 (congrArg (ix2 · q) (Fin.ext (show 512 * (i 0).val + (j.val - 1) = 512 * (i 0).val + j.val - 1 by omega)))
  · rw [dif_neg h, if_pos (by omega), if_pos (by omega)]

include e1 e3 in
/-- The row below, in the padded array. -/
theorem below_eq (j q : Fin 512) :
    below i x1 x3 j q = val_main_v2 (F := Ideal) A1 (ix2 (⟨2 + (512 * (i 0).val + j.val), by omega⟩ : Fin 16386) q) := by
  rw [Cert.Reference3Ideal.Mix.padded_at, below]
  by_cases h : 1 ≤ 2 + (512 * (i 0).val + j.val) ∧ 2 + (512 * (i 0).val + j.val) - 1 < 16384
  · rw [dif_pos h]
    by_cases hj : j.val = 511
    · rw [dif_pos hj, if_neg (by omega), e3]
      exact congrArg A1 (congrArg (ix2 · q)
        (Fin.ext (show 8 * min (64 * ((i 0).val + 1)) 2047 + 0 = 2 + (512 * (i 0).val + j.val) - 1 by omega)))
    · rw [dif_neg hj, e1]
      exact congrArg A1 (congrArg (ix2 · q) (Fin.ext (show 512 * (i 0).val + (j.val + 1) = 2 + (512 * (i 0).val + j.val) - 1 by omega)))
  · rw [dif_neg h, dif_pos (by omega), if_pos (by omega)]

include e1 e2 e3 e4 e7 in
/-- The short convolution of the tile's rows is that of the whole array's rows. -/
theorem short_eq (j q : Fin 512) : short i x1 x2 x3 x4 x7 j q
    = val_main_v23 (F := Ideal) A1 A2 A5 (ix2 (⟨512 * (i 0).val + j.val, by omega⟩ : Fin 16384) q) := by
  have own : x1 (ix2 j q) = val_main_v2 (F := Ideal) A1 (ix2 (⟨1 + (512 * (i 0).val + j.val), by omega⟩ : Fin 16386) q) := by
    rw [Cert.Reference3Ideal.Mix.padded_at, dif_pos (by show 1 ≤ 1 + (512 * (i 0).val + j.val) ∧ 1 + (512 * (i 0).val + j.val) - 1 < 16384; omega), e1]
    exact congrArg A1 (congrArg (ix2 · q) (Fin.ext (show 512 * (i 0).val + j.val = 1 + (512 * (i 0).val + j.val) - 1 by omega)))
  rw [Cert.Reference3Ideal.Mix.short_at, short, above_eq i x1 x2 A1 hi e1 e2, below_eq i x1 x3 A1 hi e1 e3, own, e4, e7, e7, e7]

include e0 e8 e9 in
/-- A gate of the tile's rows is that of the whole array's rows. -/
theorem gate_eq (j : Fin 512) (n : Fin 3) (y : Fin 1024) (q : Fin 3072) (hq : q.val = n.val * 1024 + y.val) : gate x0 x8 x9 j q
    = val_main_v42 (F := Ideal) A0 A6 A7 (ix3 (⟨512 * (i 0).val + j.val, by omega⟩ : Fin 16384) n y) := by
  have hq' : q = ⟨n.val * 1024 + y.val, by omega⟩ := Fin.ext hq
  rw [Cert.Reference3Ideal.Mix.gate_at, gate, ← hq', e9]
  refine congrArg (fun s => Ideal.logistic (s + _)) (Finset.sum_congr rfl fun k _ => ?_)
  rw [e0, e8]

include e0 e1 e2 e3 e4 e5 e6 e7 e8 e9 e10 in
/-- The gated sum of the tile's branches is that of the whole array's. -/
theorem mix_eq (j : Fin 512) (y : Fin 1024) : mix i x0 x1 x2 x3 x4 x5 x6 x7 x8 x9 x10 j y
    = val_main_v44 (F := Ideal) A0 A1 A2 A3 A4 A5 A6 A7 A8 (ix2 (⟨512 * (i 0).val + j.val, by omega⟩ : Fin 16384) y) := by
  have g := gate_eq i x0 x8 x9 A0 A6 A7 hi e0 e8 e9 j
  have s := short_eq i x1 x2 x3 x4 x7 A1 A2 A5 hi e1 e2 e3 e4 e7 j
  rw [Cert.Reference3Ideal.Mix.mix_at, mix, g 0 y _ (by show y.val = 0 * 1024 + y.val; omega), g 1 y _ (by show 1024 + y.val = 1 * 1024 + y.val; omega),
    g 2 y _ (by show 2048 + y.val = 2 * 1024 + y.val; omega)]
  have b : ∀ n, val_main_v31 (F := Ideal) A1 A2 A3 A4 A5 A8 (ix3 (⟨512 * (i 0).val + j.val, by omega⟩ : Fin 16384) n y) = _ :=
    fun n => Cert.Reference3Ideal.Mix.branch_at A1 A2 A3 A4 A5 A8 _ n y
  have b0 : ∑ q : Fin 512, short i x1 x2 x3 x4 x7 j q * x10 (ix3 0 q y) = _ :=
    (Finset.sum_congr rfl fun q _ => by rw [s, e10]; rfl).trans (b 0).symm
  have b1 : ∑ q : Fin 512, x5 (ix2 j q) * x10 (ix3 1 q y) = _ := (Finset.sum_congr rfl fun q _ => by rw [e5, e10]; rfl).trans (b 1).symm
  have b2 : ∑ q : Fin 512, x6 (ix2 j q) * x10 (ix3 2 q y) = _ := (Finset.sum_congr rfl fun q _ => by rw [e6, e10]; rfl).trans (b 2).symm
  rw [b0, b1, b2]

include e0 e1 e2 e3 e4 e5 e6 e7 e8 e9 e10 e11 e12 e13 in
/-- An entry of the block a grid point writes is the reference's entry. -/
theorem point (j : Fin 512) (e : Fin 1024) : out0_14 i x0 x1 x2 x3 x4 x5 x6 x7 x8 x9 x10 x11 x12 x13 (ix2 j e)
    = val_main_v72 (F := Ideal) A0 A1 A2 A3 A4 A5 A6 A7 A8 A9 A10 A11 (ix2 (⟨512 * (i 0).val + j.val, by omega⟩ : Fin 16384) e) := by
  have s := mix_eq i x0 x1 x2 x3 x4 x5 x6 x7 x8 x9 x10 A0 A1 A2 A3 A4 A5 A6 A7 A8 hi e0 e1 e2 e3 e4 e5 e6 e7 e8 e9 e10 j
  rw [out_at, Cert.Reference3Ideal.Mix.norm_at, e12, e13]
  refine congrArg (fun z => Cert.rowNorm z (A10 (ix1 e)) (A11 (ix1 e)) e) (funext fun k => ?_)
  rw [Cert.Reference3Ideal.Mix.sum_at, e0]
  refine congrArg (Ideal.ofBits FTy.f32 1068827891#32 * _ + ·) (Finset.sum_congr rfl fun y _ => ?_)
  rw [s, e11]

end Point

variable (m : (ℓ : Loc nD τ sig) → Buf (Elt Ideal) ℓ)

/-- Which block of each array a grid point takes: point `t` is row tile `t`, between the eight rows before it and the eight rows after it. -/
theorem idx : ∀ t : Fin cfg0.N, win0_0.index t = ![t.val, 0] ∧ win0_1.index t = ![t.val, 0] ∧ win0_2.index t = ![64 * t.val - 1, 0]
    ∧ win0_3.index t = ![min (64 * (t.val + 1)) 2047, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0, 0] ∧ win0_11.index t = ![0, 0]
    ∧ win0_12.index t = ![0, 0] ∧ win0_13.index t = ![0, 0] ∧ win0_14.index t = ![t.val, 0] ∧ (grid0.coords t 0).val = t.val ∧ t.val < 32 :=
  (by decide +kernel : ∀ t : Fin grid0.N, _)

set_option maxHeartbeats 1600000 in
/-- The output array after the run is the reference's result. -/
theorem final (c : Dev nD) :
    (dats m 0 c).arrAt 14 cfg0.N = val_main_v72 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  refine (dats m 0 c).arrAt_eq_of_covers 14 _ (by decide +kernel) fun t _ y => ?_
  blk_simp
  rw [after0_14]
  obtain ⟨i0, i1, i2, i3, i4, i5, i6, i7, i8, i9, i10, i11, i12, i13, i14, hc, ht⟩ := idx t
  have hy : y = ix2 (y 0) (y 1) := by funext a; match a with | ⟨0, _⟩ => rfl | ⟨1, _⟩ => rfl
  have hy0 : (y 0).val < 512 := (y 0).isLt
  have hy1 : (y 1).val < 1024 := (y 1).isLt
  have hemb : ((cfg0.win 14).blk t).view.emb y = ix2 (⟨512 * (grid0.coords t 0).val + (y 0).val, by omega⟩ : Fin 16384) (y 1) := by
    simp only [hc]
    blk_ext [i14]
  rw [hemb]
  refine Eq.trans (congrArg _ hy) ?_
  refine point (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)
    _ _ _ _ _ _ _ _ _ _ _ _ (by omega) ?_ ?_ ?_ ?_ ?_ ?_ ?_ ?_ ?_ ?_ ?_ ?_ ?_ ?_ (y 0) (y 1)
  · intro j k; simp only [hc]; blk_ext! [iblk, V, i0]
  · intro j k; simp only [hc]; blk_ext! [iblk, V, i1]
  · intro j k; simp only [hc]; blk_ext! [iblk, V, i2]
  · intro j k; simp only [hc]; blk_ext! [iblk, V, i3]
  · intro j k; simp only [hc]; blk_ext! [iblk, V, i4]
  · intro j k; simp only [hc]; blk_ext! [iblk, V, i5]
  · intro j k; simp only [hc]; blk_ext! [iblk, V, i6]
  · intro n q; blk_ext! [iblk, V, i7]
  · intro k q; blk_ext! [iblk, V, i8]
  · intro q; blk_ext! [iblk, V, i9]
  · intro n q y; blk_ext! [iblk, V, i10]
  · intro y k; blk_ext! [iblk, V, i11]
  · intro e; blk_ext! [iblk, V, i12]
  · intro e; blk_ext! [iblk, V, i13]

end Cert.Kernel3Ideal.Mix

end
-- ==== Proof.ProjBlock.lean ====
module

public import proofs.«01_k».proof.Proof.FfnBlock
public import proofs.«01_k».proof.Proof.Gen.Kernel4Ideal.Value
public import Idealize.ShloMosaic.Lib.Pipeline.ValueKit
public import Idealize.ShloMosaic.Lib.Pointwise

@[expose] public section

set_option maxRecDepth 16384

noncomputable section

/-- One entry of a head turned by its position: the entry times the cosine, plus its partner in the other half times the signed sine. -/
def Cert.turn (a c s : Fin 128 → EReal) (l : Fin 128) : EReal :=
  a l * c l + (if h : l.val < 64 then a ⟨64 + l.val, by omega⟩ else a ⟨l.val - 64, by omega⟩) * s l

/-- The partner is the entry half a turn further round. -/
theorem Cert.turn_of_roll (a c s : Fin 128 → EReal) (l l' : Fin 128) (h : l'.val = (l.val + 128 - 64) % 128) :
    a l * c l + a l' * s l = Cert.turn a c s l := by
  unfold Cert.turn
  by_cases hl : l.val < 64
  · rw [dif_pos hl]
    exact congrArg (fun x => a l * c l + a x * s l) (Fin.ext (by rw [h]; show _ = 64 + l.val; omega))
  · rw [dif_neg hl]
    exact congrArg (fun x => a l * c l + a x * s l) (Fin.ext (by rw [h]; show _ = l.val - 64; omega))

namespace Cert.Kernel4Ideal.Proj

open Cert.Kernel4Ideal Cert.Kernel4Ideal.Gen Idealize.ShloMosaic Idealize.ShloMosaic.TcCoe Idealize.SL.Sem
open Idealize.ShloMosaic.Pipeline (Dat)

/-! ## What the stored values are, entry by entry -/

/-- The normalised tile. -/
theorem pay1_at (x : Vec Ideal S512x1024 .f32) (g b : Vec Ideal S1x1024 .f32) (j : Fin 512) (e : Fin 1024) :
    k0_pay1 x g b (ix2 j e) = Cert.rowNorm (fun k => x (ix2 j k)) (g (ix2 0 e)) (b (ix2 0 e)) e := by
  unfold_payloads
  pointwise []
  rfl

/-- The normalised tile again, as the products read it. -/
theorem pay2_at (x : Vec Ideal S512x1024 .f32) (g b : Vec Ideal S1x1024 .f32) (j : Fin 512) (e : Fin 1024) :
    k0_pay2 x g b (ix2 j e) = Cert.rowNorm (fun k => x (ix2 j k)) (g (ix2 0 e)) (b (ix2 0 e)) e := by
  unfold_payloads
  pointwise []
  rfl

/-- The transposed product. -/
theorem pay3_at (x : Vec Ideal S512x1024 .f32) (g b : Vec Ideal S1x1024 .f32) (w : Vec Ideal S1664x1024 .bf16) (q : Fin 1664) (j : Fin 512) :
    k0_pay3 x g b w (ix2 q j) = ∑ k : Fin 1024, Cert.rowNorm (fun k => x (ix2 j k)) (g (ix2 0 k)) (b (ix2 0 k)) k * w (ix2 q k) := by
  have h : k0_pay3 x g b w (ix2 q j) = ∑ k : Fin 1024, w (ix2 q k) * k0_pay2 x g b (ix2 j k) := by
    unfold k0_pay3
    generalize k0_pay2 x g b = z
    unfold_payloads
    pointwise [dot_S1664x1024_S512x1024_S1664x512_1_1_0_0_n_n]
  rw [h]
  refine Finset.sum_congr rfl fun k _ => ?_
  rw [pay2_at, mul_comm]

section Natural

variable (z : FVec Ideal S512x1024 .bf16) (c s : Vec Ideal S512x128 .f32)

/-- The product of the first and third parts of the projection. -/
theorem pay4_at (a b : Vec Ideal S1024x512 .bf16) (j q : Fin 512) :
    k0_pay4 z a b (ix2 j q) = (∑ k : Fin 1024, z (ix2 j k) * b (ix2 k q)) * ∑ k : Fin 1024, z (ix2 j k) * a (ix2 k q) := by
  unfold_payloads
  pointwise [dot_S512x1024_S1024x512_S512x512_1_0_0_1_n_n]

/-- The second part of the projection. -/
theorem pay5_at (a : Vec Ideal S1024x512 .bf16) (j q : Fin 512) : k0_pay5 z a (ix2 j q) = ∑ k : Fin 1024, z (ix2 j k) * a (ix2 k q) := by
  unfold_payloads
  pointwise [dot_S512x1024_S1024x512_S512x512_1_0_0_1_n_n]

/-- The first head of a pair of key heads. -/
theorem pay7_at (w : Vec Ideal S1024x256 .bf16) (n : Fin 1) (j : Fin 512) (l : Fin 128) : k0_pay7 z c s w (ix3 n j l)
    = Cert.turn (fun l => ∑ k : Fin 1024, z (ix2 j k) * w (ix2 k ⟨l.val, by omega⟩)) (fun l => c (ix2 j l)) (fun l => s (ix2 j l)) l := by
  unfold_payloads
  pointwise [dot_S512x1024_S1024x256_S512x256_1_0_0_1_n_n]
  exact Cert.turn_of_roll (fun l => ∑ k : Fin 1024, z (ix2 j k) * w (ix2 k ⟨l.val, by omega⟩))
    (fun l => c (ix2 j l)) (fun l => s (ix2 j l)) l ⟨(l.val + 128 - 64) % 128, by omega⟩ rfl

/-- The second head of the first pair of key heads. -/
theorem pay9_at (w : Vec Ideal S1024x256 .bf16) (n : Fin 1) (j : Fin 512) (l : Fin 128) : k0_pay9 (k0_pay8 z c s w) (ix3 n j l)
    = Cert.turn (fun l => ∑ k : Fin 1024, z (ix2 j k) * w (ix2 k ⟨128 + l.val, by omega⟩)) (fun l => c (ix2 j l)) (fun l => s (ix2 j l)) l := by
  unfold_payloads
  pointwise [dot_S512x1024_S1024x256_S512x256_1_0_0_1_n_n]
  exact Cert.turn_of_roll (fun l => ∑ k : Fin 1024, z (ix2 j k) * w (ix2 k ⟨128 + l.val, by omega⟩))
    (fun l => c (ix2 j l)) (fun l => s (ix2 j l)) l ⟨(l.val + 128 - 64) % 128, by omega⟩ rfl

/-- The first head of the second pair of key heads. -/
theorem pay11_at (w : Vec Ideal S1024x256 .bf16) (n : Fin 1) (j : Fin 512) (l : Fin 128) : k0_pay11 z c s w (ix3 n j l)
    = Cert.turn (fun l => ∑ k : Fin 1024, z (ix2 j k) * w (ix2 k ⟨l.val, by omega⟩)) (fun l => c (ix2 j l)) (fun l => s (ix2 j l)) l :=
  pay7_at z c s w n j l

/-- The second head of the second pair of key heads. -/
theorem pay12_at (w : Vec Ideal S1024x256 .bf16) (n : Fin 1) (j : Fin 512) (l : Fin 128) : k0_pay12 z c s w (ix3 n j l)
    = Cert.turn (fun l => ∑ k : Fin 1024, z (ix2 j k) * w (ix2 k ⟨128 + l.val, by omega⟩)) (fun l => c (ix2 j l)) (fun l => s (ix2 j l)) l :=
  pay9_at z c s w n j l

/-- The single key head of the windowed attention. -/
theorem pay13_at (w : Vec Ideal S1024x128 .bf16) (j : Fin 512) (l : Fin 128) : k0_pay13 z c s w (ix2 j l)
    = Cert.turn (fun l => ∑ k : Fin 1024, z (ix2 j k) * w (ix2 k l)) (fun l => c (ix2 j l)) (fun l => s (ix2 j l)) l := by
  unfold_payloads
  pointwise [dot_S512x1024_S1024x128_S512x128_1_0_0_1_n_n]
  exact Cert.turn_of_roll (fun l => ∑ k : Fin 1024, z (ix2 j k) * w (ix2 k l))
    (fun l => c (ix2 j l)) (fun l => s (ix2 j l)) l ⟨(l.val + 128 - 64) % 128, by omega⟩ rfl

end Natural

section Transposed

variable (c s : Vec Ideal S128x512 .f32) (z : FVec Ideal S1664x512 .f32) (n n' : Fin 1) (l : Fin 128) (j : Fin 512)

/-- A query head: 128 rows of the transposed product, turned and scaled. -/
def query (o : ℕ) (ho : o + 128 ≤ 1664) : EReal :=
  Cert.turn (fun l => z (ix2 ⟨o + l.val, by omega⟩ j)) (fun l => c (ix2 l j)) (fun l => s (ix2 l j)) l * Ideal.ofBits FTy.f32 1043900987#32

/-- The four query heads of the differential attention. -/
theorem pay15_at : k0_pay15 (k0_pay14 c s z) (ix3 n l j) = query c s z l j 0 (by omega) := by
  unfold_payloads
  pointwise []
  simp only [query, Cert.turn, Nat.zero_add]
theorem pay16_at : k0_pay16 c s z (ix3 n l j) = query c s z l j 128 (by omega) := by
  unfold_payloads
  pointwise []
  rfl
theorem pay17_at : k0_pay17 c s z (ix3 n l j) = query c s z l j 256 (by omega) := by
  unfold_payloads
  pointwise []
  rfl
theorem pay19_at : k0_pay19 (k0_pay18 c s z) (ix3 n l j) = query c s z l j 384 (by omega) := by
  unfold_payloads
  pointwise []
  rfl

/-- The four value heads of the differential attention. -/
theorem pay20_at : k0_pay20 z (ix4 n n' l j) = z (ix2 ⟨512 + l.val, by omega⟩ j) := by unfold_payloads; pointwise []
theorem pay21_at : k0_pay21 z (ix4 n n' l j) = z (ix2 ⟨640 + l.val, by omega⟩ j) := by unfold_payloads; pointwise []
theorem pay22_at : k0_pay22 z (ix4 n n' l j) = z (ix2 ⟨768 + l.val, by omega⟩ j) := by unfold_payloads; pointwise []
theorem pay23_at : k0_pay23 z (ix4 n n' l j) = z (ix2 ⟨896 + l.val, by omega⟩ j) := by unfold_payloads; pointwise []

/-- The four query heads of the windowed attention. -/
theorem pay25_at : k0_pay25 (k0_pay24 c s z) (ix3 n l j) = query c s z l j 1024 (by omega) := by
  unfold_payloads
  pointwise []
  rfl
theorem pay26_at : k0_pay26 c s z (ix3 n l j) = query c s z l j 1152 (by omega) := by
  unfold_payloads
  pointwise []
  rfl
theorem pay27_at : k0_pay27 c s z (ix3 n l j) = query c s z l j 1280 (by omega) := by
  unfold_payloads
  pointwise []
  rfl
theorem pay28_at : k0_pay28 c s z (ix3 n l j) = query c s z l j 1408 (by omega) := by
  unfold_payloads
  pointwise []
  rfl

/-- The value head of the windowed attention. -/
theorem pay29_at : k0_pay29 z (ix2 l j) = z (ix2 ⟨1536 + l.val, by omega⟩ j) := by unfold_payloads; pointwise []

end Transposed

/-! ## What a grid point leaves in its output blocks -/

section Out

variable (x0 : Vec Ideal S512x1024 .f32) (x1 x2 : Vec Ideal S1x1024 .f32) (x3 : Vec Ideal S1024x2176 .bf16) (x4 : Vec Ideal S1664x1024 .bf16)
  (x5 x6 : Vec Ideal S512x128 .f32) (x7 x8 : Vec Ideal S128x512 .f32)

/-- A row of the tile, normalised. -/
def hid (j : Fin 512) (e : Fin 1024) : EReal := Cert.rowNorm (fun k => x0 (ix2 j k)) (x1 (ix2 0 e)) (x2 (ix2 0 e)) e

/-- A projected entry, by the weights the tile multiplies from the right. -/
def nat (j : Fin 512) (q : Fin 2176) : EReal := ∑ k : Fin 1024, hid x0 x1 x2 j k * x3 (ix2 k q)

/-- A projected entry, by the weights the tile multiplies from the left. -/
def tr (q : Fin 1664) (j : Fin 512) : EReal := ∑ k : Fin 1024, hid x0 x1 x2 j k * x4 (ix2 q k)

/-- The normalised tile. -/
theorem out9_at (j : Fin 512) (e : Fin 1024) : out0_9 x0 x1 x2 x3 x4 x5 x6 x7 x8 (ix2 j e) = hid x0 x1 x2 j e := by
  unfold_out out0_9
  simp (disch := decide) only [View.canon_cons_unit_lit', View.ld_unit_lit']
  exact pay1_at x0 x1 x2 j e

/-- The normalised tile as the products read it. -/
theorem natural_at (j : Fin 512) (k : Fin 1024) : k0_pay30 x0 x1 x2 x3 x4 x5 x6 x7 x8 (ix2 j k) = hid x0 x1 x2 j k := by
  unfold k0_pay30
  simp (disch := decide) only [View.ld_unit_lit']
  exact pay2_at x0 x1 x2 j k

/-- The transposed product of the tile. -/
theorem transposed_at (q : Fin 1664) (j : Fin 512) : k0_pay31 x0 x1 x2 x3 x4 x5 x6 x7 x8 (ix2 q j) = tr x0 x1 x2 x4 q j := by
  unfold k0_pay31
  simp (disch := decide) only [View.ld_unit_lit']
  exact pay3_at x0 x1 x2 x4 q j

/-- A product of the tile with a run of columns of the weights. -/
theorem natural_sum (j : Fin 512) (w : Fin 1024 → EReal) (q : Fin 2176) (h : ∀ k, w k = x3 (ix2 k q)) :
    ∑ k : Fin 1024, k0_pay30 x0 x1 x2 x3 x4 x5 x6 x7 x8 (ix2 j k) * w k = nat x0 x1 x2 x3 j q :=
  Finset.sum_congr rfl fun k _ => by rw [natural_at, h]

/-- The product of two parts. -/
theorem out10_at (j q : Fin 512) : out0_10 x0 x1 x2 x3 x4 x5 x6 x7 x8 (ix2 j q)
    = nat x0 x1 x2 x3 j ⟨1024 + q.val, by omega⟩ * nat x0 x1 x2 x3 j ⟨q.val, by omega⟩ := by
  unfold out0_10
  simp (disch := decide) only [View.canon_cons_unit_lit']
  rw [pay4_at, natural_sum x0 x1 x2 x3 x4 x5 x6 x7 x8 j _ ⟨1024 + q.val, by omega⟩ fun k => View.ld_unit_apply_of _ _ _ _ _ _ fun a => by
      match a with | ⟨0, _⟩ => exact (Nat.zero_add _).symm | ⟨1, _⟩ => rfl,
    natural_sum x0 x1 x2 x3 x4 x5 x6 x7 x8 j _ ⟨q.val, by omega⟩ fun k => View.ld_unit_apply_of _ _ _ _ _ _ fun a => by
      match a with | ⟨0, _⟩ => exact (Nat.zero_add _).symm | ⟨1, _⟩ => exact (Nat.zero_add _).symm]

/-- The second part. -/
theorem out11_at (j q : Fin 512) : out0_11 x0 x1 x2 x3 x4 x5 x6 x7 x8 (ix2 j q) = nat x0 x1 x2 x3 j ⟨512 + q.val, by omega⟩ := by
  unfold out0_11
  simp (disch := decide) only [View.canon_cons_unit_lit']
  rw [pay5_at, natural_sum x0 x1 x2 x3 x4 x5 x6 x7 x8 j _ ⟨512 + q.val, by omega⟩ fun k => View.ld_unit_apply_of _ _ _ _ _ _ fun a => by
      match a with | ⟨0, _⟩ => exact (Nat.zero_add _).symm | ⟨1, _⟩ => rfl]

/-- The single key head. -/
theorem out13_at (j : Fin 512) (l : Fin 128) : out0_13 x0 x1 x2 x3 x4 x5 x6 x7 x8 (ix2 j l)
    = Cert.turn (fun l => nat x0 x1 x2 x3 j ⟨2048 + l.val, by omega⟩) (fun l => x5 (ix2 j l)) (fun l => x6 (ix2 j l)) l := by
  unfold out0_13
  simp (disch := decide) only [View.canon_cons_unit_lit', View.ld_unit_lit']
  rw [pay13_at]
  refine congrArg (fun a => Cert.turn a _ _ l) (funext fun l => ?_)
  exact natural_sum x0 x1 x2 x3 x4 x5 x6 x7 x8 j _ ⟨2048 + l.val, by omega⟩ fun k => View.ld_unit_apply_of _ _ _ _ _ _ fun a => by
      match a with | ⟨0, _⟩ => exact (Nat.zero_add _).symm | ⟨1, _⟩ => rfl

/-- The value head of the windowed attention. -/
theorem out17_at (l : Fin 128) (j : Fin 512) : out0_17 x0 x1 x2 x3 x4 x5 x6 x7 x8 (ix2 l j) = tr x0 x1 x2 x4 ⟨1536 + l.val, by omega⟩ j := by
  unfold out0_17
  simp (disch := decide) only [View.canon_cons_unit_lit']
  rw [pay29_at, transposed_at]

/-- The four key heads. -/
theorem out12_at (h : Fin 4) (j : Fin 512) (l : Fin 128) : out0_12 x0 x1 x2 x3 x4 x5 x6 x7 x8 (ix3 h j l)
    = Cert.turn (fun l => nat x0 x1 x2 x3 j ⟨1536 + (128 * h.val + l.val), by omega⟩) (fun l => x5 (ix2 j l)) (fun l => x6 (ix2 j l)) l := by
  canon_tiles x y
  all_goals
    change h.val = _ at y0
    have hx : x = ix3 (0 : Fin 1) j l := by
      funext a; match a with | ⟨0, _⟩ => exact Fin.ext (Nat.lt_one_iff.mp x0_lt) | ⟨1, _⟩ => exact Fin.ext y1.symm | ⟨2, _⟩ => exact Fin.ext y2.symm
    rw [hx]
    simp (disch := decide) only [View.ld_unit_lit']
    first | rw [pay12_at] | rw [pay11_at] | rw [pay9_at] | rw [pay7_at]
    refine congrArg (fun a => Cert.turn a _ _ l) (funext fun l => ?_)
    refine natural_sum x0 x1 x2 x3 x4 x5 x6 x7 x8 j _ ⟨1536 + (128 * h.val + l.val), by omega⟩ fun k => View.ld_unit_apply_of _ _ _ _ _ _ fun a => ?_
    match a with
    | ⟨0, _⟩ => exact (Nat.zero_add _).symm
    | ⟨1, _⟩ =>
      show 1536 + (128 * h.val + l.val) = _
      first
        | (show _ = 1792 + (128 + l.val); omega)
        | (show _ = 1792 + l.val; omega)
        | (show _ = 1536 + (128 + l.val); omega)
        | (show _ = 1536 + l.val; omega)

/-- A query head's entry is that of the transposed product's rows. -/
theorem query_at (o : ℕ) (ho : o + 128 ≤ 1664) (a : ℕ) (ha : a + 128 ≤ 1664) (e : o = a) (l : Fin 128) (j : Fin 512) :
    query x7 x8 (k0_pay31 x0 x1 x2 x3 x4 x5 x6 x7 x8) l j o ho
      = Cert.turn (fun l => tr x0 x1 x2 x4 ⟨a + l.val, by omega⟩ j) (fun l => x7 (ix2 l j)) (fun l => x8 (ix2 l j)) l
        * Ideal.ofBits FTy.f32 1043900987#32 := by
  subst e
  simp only [query, transposed_at]

/-- The four query heads of the differential attention. -/
theorem out14_at (h : Fin 4) (l : Fin 128) (j : Fin 512) : out0_14 x0 x1 x2 x3 x4 x5 x6 x7 x8 (ix3 h l j)
    = Cert.turn (fun l => tr x0 x1 x2 x4 ⟨128 * h.val + l.val, by omega⟩ j) (fun l => x7 (ix2 l j)) (fun l => x8 (ix2 l j)) l
      * Ideal.ofBits FTy.f32 1043900987#32 := by
  canon_tiles x y
  all_goals
    change h.val = _ at y0
    have hx : x = ix3 (0 : Fin 1) l j := by
      funext a; match a with | ⟨0, _⟩ => exact Fin.ext (Nat.lt_one_iff.mp x0_lt) | ⟨1, _⟩ => exact Fin.ext y1.symm | ⟨2, _⟩ => exact Fin.ext y2.symm
    rw [hx]
    simp (disch := decide) only [View.ld_unit_lit']
    first | rw [pay19_at] | rw [pay17_at] | rw [pay16_at] | rw [pay15_at]
    exact query_at x0 x1 x2 x3 x4 x5 x6 x7 x8 _ _ (128 * h.val) (by omega) (by omega) l j

/-- The four value heads. -/
theorem out15_at (h : Fin 4) (n : Fin 1) (l : Fin 128) (j : Fin 512) : out0_15 x0 x1 x2 x3 x4 x5 x6 x7 x8 (ix4 h n l j)
    = tr x0 x1 x2 x4 ⟨512 + (128 * h.val + l.val), by omega⟩ j := by
  canon_tiles x y
  all_goals
    change h.val = _ at y0
    have hx : x = ix4 (0 : Fin 1) (0 : Fin 1) l j := by
      funext a; match a with | ⟨0, _⟩ => exact Fin.ext (Nat.lt_one_iff.mp x0_lt) | ⟨1, _⟩ => exact Fin.ext (Nat.lt_one_iff.mp x1_lt) | ⟨2, _⟩ => exact Fin.ext y2.symm | ⟨3, _⟩ => exact Fin.ext y3.symm
    rw [hx]
    first | rw [pay23_at] | rw [pay22_at] | rw [pay21_at] | rw [pay20_at]
    rw [transposed_at]
    exact congrArg (tr x0 x1 x2 x4 · j) (Fin.ext (by dsimp only; omega))

/-- The four query heads of the windowed attention. -/
theorem out16_at (h : Fin 4) (l : Fin 128) (j : Fin 512) : out0_16 x0 x1 x2 x3 x4 x5 x6 x7 x8 (ix3 h l j)
    = Cert.turn (fun l => tr x0 x1 x2 x4 ⟨1024 + 128 * h.val + l.val, by omega⟩ j) (fun l => x7 (ix2 l j)) (fun l => x8 (ix2 l j)) l
      * Ideal.ofBits FTy.f32 1043900987#32 := by
  canon_tiles x y
  all_goals
    change h.val = _ at y0
    have hx : x = ix3 (0 : Fin 1) l j := by
      funext a; match a with | ⟨0, _⟩ => exact Fin.ext (Nat.lt_one_iff.mp x0_lt) | ⟨1, _⟩ => exact Fin.ext y1.symm | ⟨2, _⟩ => exact Fin.ext y2.symm
    rw [hx]
    simp (disch := decide) only [View.ld_unit_lit']
    first | rw [pay28_at] | rw [pay27_at] | rw [pay26_at] | rw [pay25_at]
    exact query_at x0 x1 x2 x3 x4 x5 x6 x7 x8 _ _ (1024 + 128 * h.val) (by omega) (by omega) l j

end Out

end Cert.Kernel4Ideal.Proj

end
-- ==== Proof.ProjRef.lean ====
module

public import proofs.«01_k».proof.Proof.ProjBlock
public import proofs.«01_k».proof.Proof.Gen.Reference4Ideal.Read

@[expose] public section

set_option maxRecDepth 16384

noncomputable section

namespace Cert.Reference4Ideal.Proj

open Cert.Reference4Ideal Cert.Reference4Ideal.Gen Cert.Reference4Ideal.Read Idealize.ShloMosaic Idealize.ShloMosaic.TcCoe Idealize.SL.Sem

variable (x0 : (⟨S16384x1024, .f32⟩ : BufTy).Contents (Elt Ideal)) (x1 x2 : (⟨S1024, .f32⟩ : BufTy).Contents (Elt Ideal))
  (x3 : (⟨S1024x3840, .f32⟩ : BufTy).Contents (Elt Ideal)) (x4 x5 : (⟨S16384x128, .f32⟩ : BufTy).Contents (Elt Ideal))
  (x6 x7 : (⟨S128x16384, .f32⟩ : BufTy).Contents (Elt Ideal))

/-- A row of the sequence, normalised. -/
def hid (r : Fin 16384) (e : Fin 1024) : EReal := Cert.rowNorm (fun k => x0 (ix2 r k)) (x1 (ix1 e)) (x2 (ix1 e)) e

/-- The input projection of a row. -/
def prj (r : Fin 16384) (q : Fin 3840) : EReal := ∑ k : Fin 1024, hid x0 x1 x2 r k * x3 (ix2 k q)

/-- Where an entry of a rearranged head lay before: the halves of a head that are turned together were not next to each other. -/
def lane (l : ℕ) : ℕ := l / 32 % 2 * 64 + l / 64 * 32 + l % 32

/-- The normalisation. -/
theorem norm_at (r : Fin 16384) (e : Fin 1024) : val_main_v23 (F := Ideal) x0 x1 x2 (ix2 r e) = hid x0 x1 x2 r e := by
  unfold val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4 val_main_v3
    val_main_v2 val_main_v1 val_main_v0 val_main_cst val_main_cst_0 val_main_cst_1 val_main_cst_2 val_main_cst_3
  pointwise []
  rfl

/-- The projection. -/
theorem prj_at (r : Fin 16384) (q : Fin 3840) : val_main_v24 (F := Ideal) x0 x1 x2 x3 (ix2 r q) = prj x0 x1 x2 x3 r q := by
  have h := norm_at x0 x1 x2 r
  revert h
  unfold val_main_v24 prj
  generalize val_main_v23 (F := Ideal) x0 x1 x2 = y
  intro h
  pointwise [dot_S16384x1024_S1024x3840_S16384x3840_1_0_0_1_n_n]
  exact Finset.sum_congr rfl fun k _ => by rw [h]

/-- The product of the third and first parts. -/
theorem u_at (r : Fin 16384) (q : Fin 512) : val_main_v100 (F := Ideal) x0 x1 x2 x3 (ix2 r q)
    = prj x0 x1 x2 x3 r ⟨1024 + q.val, by omega⟩ * prj x0 x1 x2 x3 r ⟨q.val, by omega⟩ := by
  have h := prj_at x0 x1 x2 x3 r
  revert h
  unfold val_main_v100 val_main_v46 val_main_v27 val_main_v25
  generalize val_main_v24 (F := Ideal) x0 x1 x2 x3 = y
  intro h
  pointwise []
  rw [h, h]

/-- The second part. -/
theorem ab_at (r : Fin 16384) (q : Fin 512) : val_main_v101 (F := Ideal) x0 x1 x2 x3 (ix2 r q) = prj x0 x1 x2 x3 r ⟨512 + q.val, by omega⟩ := by
  have h := prj_at x0 x1 x2 x3 r
  revert h
  unfold val_main_v101 val_main_v26
  generalize val_main_v24 (F := Ideal) x0 x1 x2 x3 = y
  intro h
  pointwise []
  rw [h]

/-- The differential attention's queries, each head rearranged. -/
theorem dq_at (r : Fin 16384) (h : Fin 4) (l : Fin 128) : val_main_v36 (F := Ideal) x0 x1 x2 x3 (ix3 r h l)
    = prj x0 x1 x2 x3 r ⟨1536 + (128 * h.val + lane l.val), by simp only [lane]; omega⟩ := by
  have e := prj_at x0 x1 x2 x3 r
  revert e
  unfold val_main_v36 val_main_v35 val_main_v34 val_main_v28
  generalize val_main_v24 (F := Ideal) x0 x1 x2 x3 = y
  intro e
  pointwise []
  rw [e]
  exact congrArg (prj x0 x1 x2 x3 r) (Fin.ext (by simp only [lane]; omega))

/-- The differential attention's keys, each head rearranged. -/
theorem dk_at (r : Fin 16384) (h : Fin 4) (l : Fin 128) : val_main_v39 (F := Ideal) x0 x1 x2 x3 (ix3 r h l)
    = prj x0 x1 x2 x3 r ⟨2048 + (128 * h.val + lane l.val), by simp only [lane]; omega⟩ := by
  have e := prj_at x0 x1 x2 x3 r
  revert e
  unfold val_main_v39 val_main_v38 val_main_v37 val_main_v29
  generalize val_main_v24 (F := Ideal) x0 x1 x2 x3 = y
  intro e
  pointwise []
  rw [e]
  exact congrArg (prj x0 x1 x2 x3 r) (Fin.ext (by simp only [lane]; omega))

/-- The windowed attention's queries, two heads interleaved. -/
theorem sq_at (r : Fin 16384) (h : Fin 4) (l : Fin 128) : val_main_v42 (F := Ideal) x0 x1 x2 x3 (ix3 r h l)
    = prj x0 x1 x2 x3 r ⟨3072 + (l.val / 32 % 2 * 256 + h.val * 64 + l.val / 64 * 32 + l.val % 32), by omega⟩ := by
  have e := prj_at x0 x1 x2 x3 r
  revert e
  unfold val_main_v42 val_main_v41 val_main_v40 val_main_v31
  generalize val_main_v24 (F := Ideal) x0 x1 x2 x3 = y
  intro e
  pointwise []
  rw [e]

/-- The windowed attention's key, rearranged. -/
theorem sk_at (r : Fin 16384) (h : Fin 1) (l : Fin 128) : val_main_v45 (F := Ideal) x0 x1 x2 x3 (ix3 r h l)
    = prj x0 x1 x2 x3 r ⟨3584 + lane l.val, by simp only [lane]; omega⟩ := by
  have e := prj_at x0 x1 x2 x3 r
  revert e
  unfold val_main_v45 val_main_v44 val_main_v43 val_main_v32
  generalize val_main_v24 (F := Ideal) x0 x1 x2 x3 = y
  intro e
  pointwise []
  rw [e]
  exact congrArg (prj x0 x1 x2 x3 r) (Fin.ext (by simp only [lane]))

/-- The differential attention's keys, turned. -/
theorem key_at (h : Fin 4) (r : Fin 16384) (l : Fin 128) : val_main_v102 (F := Ideal) x0 x1 x2 x3 x4 x5 (ix3 h r l)
    = Cert.turn (fun l => prj x0 x1 x2 x3 r ⟨2048 + (128 * h.val + lane l.val), by simp only [lane]; omega⟩)
      (fun l => x4 (ix2 r l)) (fun l => x5 (ix2 r l)) l := by
  have e := dk_at x0 x1 x2 x3 r h
  revert e
  unfold val_main_v102 val_main_v57 val_main_v56 val_main_v55 val_main_v54 val_main_v53 val_main_v52 val_main_v51 val_main_v50 val_main_v49
    val_main_v48 val_main_v47
  generalize val_main_v39 (F := Ideal) x0 x1 x2 x3 = y
  intro e
  pointwise []
  simp only [e, Cert.turn]

/-- The windowed attention's key, turned. -/
theorem skey_at (r : Fin 16384) (l : Fin 128) : val_main_v103 (F := Ideal) x0 x1 x2 x3 x4 x5 (ix2 r l)
    = Cert.turn (fun l => prj x0 x1 x2 x3 r ⟨3584 + lane l.val, by simp only [lane]; omega⟩)
      (fun l => x4 (ix2 r l)) (fun l => x5 (ix2 r l)) l := by
  have e := sk_at x0 x1 x2 x3 r 0
  revert e
  unfold val_main_v103 val_main_v66 val_main_v65 val_main_v64 val_main_v63 val_main_v62 val_main_v61 val_main_v60 val_main_v59 val_main_v58
  generalize val_main_v45 (F := Ideal) x0 x1 x2 x3 = y
  intro e
  pointwise []
  simp only [e, Cert.turn]

/-- The differential attention's queries, turned and scaled. -/
theorem query_at (h : Fin 4) (l : Fin 128) (r : Fin 16384) : val_main_v104 (F := Ideal) x0 x1 x2 x3 x6 x7 (ix3 h l r)
    = Cert.turn (fun l => prj x0 x1 x2 x3 r ⟨1536 + (128 * h.val + lane l.val), by simp only [lane]; omega⟩)
      (fun l => x6 (ix2 l r)) (fun l => x7 (ix2 l r)) l * Ideal.ofBits FTy.f32 1043900987#32 := by
  have e := dq_at x0 x1 x2 x3 r h
  revert e
  unfold val_main_v104 val_main_v81 val_main_v80 val_main_v79 val_main_v78 val_main_v77 val_main_v76 val_main_v75 val_main_v74 val_main_v73
    val_main_v72 val_main_v71 val_main_v70 val_main_v69 val_main_v68 val_main_v67 val_main_cst_4
  generalize val_main_v36 (F := Ideal) x0 x1 x2 x3 = y
  intro e
  pointwise []
  simp only [e, Cert.turn]

/-- The differential attention's values, in blocks of 512 positions. -/
theorem value_at (h : Fin 4) (n : Fin 32) (l : Fin 128) (j : Fin 512) : val_main_v105 (F := Ideal) x0 x1 x2 x3 (ix4 h n l j)
    = prj x0 x1 x2 x3 ⟨512 * n.val + j.val, by omega⟩ ⟨2560 + (128 * h.val + l.val), by omega⟩ := by
  have e := prj_at x0 x1 x2 x3
  revert e
  unfold val_main_v105 val_main_v83 val_main_v82 val_main_v30
  generalize val_main_v24 (F := Ideal) x0 x1 x2 x3 = y
  intro e
  pointwise []
  rw [e]
  exact congrArg₂ (prj x0 x1 x2 x3) (Fin.ext (by dsimp only; omega)) (Fin.ext (by dsimp only; omega))

/-- The windowed attention's queries, turned and scaled. -/
theorem squery_at (h : Fin 4) (l : Fin 128) (r : Fin 16384) : val_main_v106 (F := Ideal) x0 x1 x2 x3 x6 x7 (ix3 h l r)
    = Cert.turn (fun l => prj x0 x1 x2 x3 r ⟨3072 + (l.val / 32 % 2 * 256 + h.val * 64 + l.val / 64 * 32 + l.val % 32), by omega⟩)
      (fun l => x6 (ix2 l r)) (fun l => x7 (ix2 l r)) l * Ideal.ofBits FTy.f32 1043900987#32 := by
  have e := sq_at x0 x1 x2 x3 r h
  revert e
  unfold val_main_v106 val_main_v98 val_main_v97 val_main_v96 val_main_v95 val_main_v94 val_main_v93 val_main_v92 val_main_v91 val_main_v90
    val_main_v89 val_main_v88 val_main_v87 val_main_v86 val_main_v85 val_main_v84 val_main_cst_5
  generalize val_main_v42 (F := Ideal) x0 x1 x2 x3 = y
  intro e
  pointwise []
  simp only [e, Cert.turn]

/-- The windowed attention's values. -/
theorem svalue_at (l : Fin 128) (r : Fin 16384) : val_main_v107 (F := Ideal) x0 x1 x2 x3 (ix2 l r)
    = prj x0 x1 x2 x3 r ⟨3712 + l.val, by omega⟩ := by
  have e := prj_at x0 x1 x2 x3 r
  revert e
  unfold val_main_v107 val_main_v99 val_main_v33
  generalize val_main_v24 (F := Ideal) x0 x1 x2 x3 = y
  intro e
  pointwise []
  rw [e]

end Cert.Reference4Ideal.Proj

end
-- ==== Proof.ProjFinal.lean ====
module

public import proofs.«01_k».proof.Proof.ProjRef
public import proofs.«01_k».proof.Defs
public import Idealize.ShloMosaic.Lib.StableHlo.ReadAt
public import Idealize.ShloMosaic.Lib.Claim

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)
open Cert.Reference4Ideal.Read (val_main_v23 val_main_v100 val_main_v101 val_main_v102 val_main_v103 val_main_v104 val_main_v105 val_main_v106 val_main_v107)
open Cert.Reference4Ideal.Proj (prj lane)

variable (m : (ℓ : Loc nD τ sig) → Buf (Elt Ideal) ℓ) (c : Dev nD)

/-- The arguments of the call, as arrays. -/
abbrev A0 : (⟨S16384x1024, .f32⟩ : BufTy).Contents (Elt Ideal) := m ((c : Thread nD τ).loc main_arg0)
abbrev A1 : (⟨S1024, .f32⟩ : BufTy).Contents (Elt Ideal) := m ((c : Thread nD τ).loc main_arg1)
abbrev A2 : (⟨S1024, .f32⟩ : BufTy).Contents (Elt Ideal) := m ((c : Thread nD τ).loc main_arg2)
abbrev A3 : (⟨S1024x3840, .f32⟩ : BufTy).Contents (Elt Ideal) := m ((c : Thread nD τ).loc main_arg3)
abbrev A4 : (⟨S16384x128, .f32⟩ : BufTy).Contents (Elt Ideal) := m ((c : Thread nD τ).loc main_arg4)
abbrev A5 : (⟨S16384x128, .f32⟩ : BufTy).Contents (Elt Ideal) := m ((c : Thread nD τ).loc main_arg5)
abbrev A6 : (⟨S128x16384, .f32⟩ : BufTy).Contents (Elt Ideal) := m ((c : Thread nD τ).loc main_arg6)
abbrev A7 : (⟨S128x16384, .f32⟩ : BufTy).Contents (Elt Ideal) := m ((c : Thread nD τ).loc main_arg7)

/-! ## The rearranged weights -/

section Weights

variable (k : Fin 1024) (h : Fin 4) (l : Fin 128)

/-- The first three parts' columns are kept in place. -/
theorem w_plain (q : Fin 1536) : V m c main_v17 (ix2 k (⟨q.val, by omega⟩ : Fin 2176)) = A3 m c (ix2 k ⟨q.val, by omega⟩) := by
  unfold V
  after_reads_at
  after_reads_at

/-- The differential attention's key columns, each head rearranged. -/
theorem w_key : V m c main_v17 (ix2 k (⟨1536 + (128 * h.val + l.val), by omega⟩ : Fin 2176))
    = A3 m c (ix2 k ⟨2048 + (128 * h.val + lane l.val), by simp only [lane]; omega⟩) := by
  unfold V
  after_reads_at
  after_reads_at
  rw [dif_pos (by omega)]
  exact congrArg (A3 m c) (congrArg (ix2 k) (Fin.ext (by simp only [lane]; omega)))

/-- The windowed attention's key columns, rearranged. -/
theorem w_skey : V m c main_v17 (ix2 k (⟨2048 + l.val, by omega⟩ : Fin 2176))
    = A3 m c (ix2 k ⟨3584 + lane l.val, by simp only [lane]; omega⟩) := by
  unfold V
  after_reads_at
  rw [dif_neg (by show ¬ 2048 + l.val < 1536; omega), dif_neg (by show ¬ 2048 + l.val - 1536 < 512; omega)]
  after_reads_at
  exact congrArg (A3 m c) (congrArg (ix2 k) (Fin.ext (by first | rfl | omega | (simp only [lane]; omega))))

/-- The differential attention's query columns, each head rearranged, as rows. -/
theorem w_query : V m c main_v22 (ix2 (⟨128 * h.val + l.val, by omega⟩ : Fin 1664) k)
    = A3 m c (ix2 k ⟨1536 + (128 * h.val + lane l.val), by simp only [lane]; omega⟩) := by
  unfold V
  after_reads_at
  after_reads_at
  rw [dif_pos (by omega)]
  exact congrArg (A3 m c) (congrArg (ix2 k) (Fin.ext (by simp only [lane]; omega)))

/-- The differential attention's value columns, as rows. -/
theorem w_value : V m c main_v22 (ix2 (⟨512 + (128 * h.val + l.val), by omega⟩ : Fin 1664) k)
    = A3 m c (ix2 k ⟨2560 + (128 * h.val + l.val), by omega⟩) := by
  unfold V
  after_reads_at
  after_reads_at
  rw [dif_pos (by omega)]

/-- The windowed attention's query columns, two heads interleaved, as rows. -/
theorem w_squery : V m c main_v22 (ix2 (⟨1024 + 128 * h.val + l.val, by omega⟩ : Fin 1664) k)
    = A3 m c (ix2 k ⟨3072 + (l.val / 32 % 2 * 256 + h.val * 64 + l.val / 64 * 32 + l.val % 32), by omega⟩) := by
  unfold V
  after_reads_at
  after_reads_at
  rw [dif_neg (by omega), dif_neg (by omega), dif_pos (by omega)]
  exact congrArg (A3 m c) (congrArg (ix2 k) (Fin.ext (by dsimp only; omega)))

/-- The windowed attention's value columns, as rows. -/
theorem w_svalue : V m c main_v22 (ix2 (⟨1536 + l.val, by omega⟩ : Fin 1664) k) = A3 m c (ix2 k ⟨3712 + l.val, by omega⟩) := by
  unfold V
  after_reads_at
  rw [dif_neg (by show ¬ 1536 + l.val < 512; omega), dif_neg (by show ¬ 1536 + l.val - 512 < 512; omega),
    dif_neg (by show ¬ 1536 + l.val - 512 - 512 < 512; omega)]
  after_reads_at
  exact congrArg (A3 m c) (congrArg (ix2 k) (Fin.ext (by first | rfl | omega | (dsimp only; omega))))

end Weights

/-! ## The blocks a grid point reads -/

/-- Which block of each array a grid point takes: point `t` is row tile `t`, with all the weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![0, t.val] ∧ win0_8.index t = ![0, t.val] ∧ t.val < 32 :=
  (by decide +kernel : ∀ t : Fin grid0.N, _)

/-- Where a grid point's outputs go. -/
theorem odx : ∀ t : Fin cfg0.N, win0_9.index t = ![t.val, 0] ∧ win0_10.index t = ![t.val, 0] ∧ win0_11.index t = ![t.val, 0]
    ∧ win0_12.index t = ![0, t.val, 0] ∧ win0_13.index t = ![t.val, 0] ∧ win0_14.index t = ![0, 0, t.val]
    ∧ win0_15.index t = ![0, t.val, 0, 0] ∧ win0_16.index t = ![0, 0, t.val] ∧ win0_17.index t = ![0, t.val] :=
  (by decide +kernel : ∀ t : Fin grid0.N, _)

variable (t : Fin cfg0.N)

/-- Row `j` of tile `t`, in the whole sequence. -/
def row (j : Fin 512) : Fin 16384 := ⟨512 * t.val + j.val, by have h := (idx t).2.2.2.2.2.2.2.2.2; omega⟩

/-- A tile's blocks, as the body takes them. -/
abbrev blk0 : Vec Ideal S512x1024 .f32 := iblk m c 0 t
abbrev blk1 : Vec Ideal S1x1024 .f32 := iblk m c 1 t
abbrev blk2 : Vec Ideal S1x1024 .f32 := iblk m c 2 t
abbrev blk3 : Vec Ideal S1024x2176 .bf16 := iblk m c 3 t
abbrev blk4 : Vec Ideal S1664x1024 .bf16 := iblk m c 4 t
abbrev blk5 : Vec Ideal S512x128 .f32 := iblk m c 5 t
abbrev blk6 : Vec Ideal S512x128 .f32 := iblk m c 6 t
abbrev blk7 : Vec Ideal S128x512 .f32 := iblk m c 7 t
abbrev blk8 : Vec Ideal S128x512 .f32 := iblk m c 8 t

/-- What a grid point's blocks hold, entry by entry. -/
theorem read0 (j : Fin 512) (k : Fin 1024) : blk0 m c t (ix2 j k) = A0 m c (ix2 (row t j) k) := by
  show iblk m c 0 t (ix2 j k) = _
  obtain ⟨i0, -⟩ := idx t
  unfold row A0
  blk_ext! [iblk, V, i0]
theorem read1 (e : Fin 1024) : blk1 m c t (ix2 0 e) = A1 m c (ix1 e) := by
  show iblk m c 1 t (ix2 0 e) = _
  obtain ⟨-, i1, -⟩ := idx t
  unfold A1
  blk_ext! [iblk, V, i1]
theorem read2 (e : Fin 1024) : blk2 m c t (ix2 0 e) = A2 m c (ix1 e) := by
  show iblk m c 2 t (ix2 0 e) = _
  obtain ⟨-, -, i2, -⟩ := idx t
  unfold A2
  blk_ext! [iblk, V, i2]
theorem read3 (k : Fin 1024) (q : Fin 2176) : blk3 m c t (ix2 k q) = V m c main_v17 (ix2 k q) := by
  show iblk m c 3 t (ix2 k q) = _
  obtain ⟨-, -, -, i3, -⟩ := idx t
  blk_ext [iblk, i3]
theorem read4 (q : Fin 1664) (k : Fin 1024) : blk4 m c t (ix2 q k) = V m c main_v22 (ix2 q k) := by
  show iblk m c 4 t (ix2 q k) = _
  obtain ⟨-, -, -, -, i4, -⟩ := idx t
  blk_ext [iblk, i4]
theorem read5 (j : Fin 512) (l : Fin 128) : blk5 m c t (ix2 j l) = A4 m c (ix2 (row t j) l) := by
  show iblk m c 5 t (ix2 j l) = _
  obtain ⟨-, -, -, -, -, i5, -⟩ := idx t
  unfold row A4
  blk_ext! [iblk, V, i5]
theorem read6 (j : Fin 512) (l : Fin 128) : blk6 m c t (ix2 j l) = A5 m c (ix2 (row t j) l) := by
  show iblk m c 6 t (ix2 j l) = _
  obtain ⟨-, -, -, -, -, -, i6, -⟩ := idx t
  unfold row A5
  blk_ext! [iblk, V, i6]
theorem read7 (j : Fin 512) (l : Fin 128) : blk7 m c t (ix2 l j) = A6 m c (ix2 l (row t j)) := by
  show iblk m c 7 t (ix2 l j) = _
  obtain ⟨-, -, -, -, -, -, -, i7, -⟩ := idx t
  unfold row A6
  blk_ext! [iblk, V, i7]
theorem read8 (j : Fin 512) (l : Fin 128) : blk8 m c t (ix2 l j) = A7 m c (ix2 l (row t j)) := by
  show iblk m c 8 t (ix2 l j) = _
  obtain ⟨-, -, -, -, -, -, -, -, i8, -⟩ := idx t
  unfold row A7
  blk_ext! [iblk, V, i8]

/-! ## The tile's values are the whole sequence's -/

/-- The normalised rows agree. -/
theorem hid_eq (j : Fin 512) (e : Fin 1024) :
    hid (blk0 m c t) (blk1 m c t) (blk2 m c t) j e = Cert.Reference4Ideal.Proj.hid (A0 m c) (A1 m c) (A2 m c) (row t j) e := by
  unfold hid Cert.Reference4Ideal.Proj.hid
  rw [read1, read2]
  exact congrArg (fun z => Cert.rowNorm z _ _ e) (funext fun k => read0 m c t j k)

/-- An entry projected by a column of the first weights is one projected by the column it came from. -/
theorem nat_eq (j : Fin 512) (q : Fin 2176) (q' : Fin 3840) (hw : ∀ k, V m c main_v17 (ix2 k q) = A3 m c (ix2 k q')) :
    nat (blk0 m c t) (blk1 m c t) (blk2 m c t) (blk3 m c t) j q = prj (A0 m c) (A1 m c) (A2 m c) (A3 m c) (row t j) q' :=
  Finset.sum_congr rfl fun k _ => by rw [hid_eq, read3, hw]

/-- An entry projected by a row of the second weights is one projected by the column it came from. -/
theorem tr_eq (j : Fin 512) (q : Fin 1664) (q' : Fin 3840) (hw : ∀ k, V m c main_v22 (ix2 q k) = A3 m c (ix2 k q')) :
    tr (blk0 m c t) (blk1 m c t) (blk2 m c t) (blk4 m c t) q j = prj (A0 m c) (A1 m c) (A2 m c) (A3 m c) (row t j) q' :=
  Finset.sum_congr rfl fun k _ => by rw [hid_eq, read4, hw]

/-- A turned head depends on its entries alone. -/
theorem turn_congr {a a' b b' s s' : Fin 128 → EReal} (ha : ∀ l, a l = a' l) (hb : ∀ l, b l = b' l) (hs : ∀ l, s l = s' l) (l : Fin 128) :
    Cert.turn a b s l = Cert.turn a' b' s' l := by
  rw [funext ha, funext hb, funext hs]

/-! ## The output arrays -/

/-- The normalised sequence. -/
theorem final9 : (dats m 0 c).arrAt 9 cfg0.N = val_main_v23 (F := Ideal) (A0 m c) (A1 m c) (A2 m c) := by
  refine (dats m 0 c).arrAt_eq_of_covers 9 _ (by decide +kernel) fun t _ y => ?_
  blk_simp
  rw [after0_9]
  have o := (odx t).1
  have hy : y = ix2 (y 0) (y 1) := by funext a; match a with | ⟨0, _⟩ => rfl | ⟨1, _⟩ => rfl
  have hemb : ((cfg0.win 9).blk t).view.emb y = ix2 (row t (y 0)) (y 1) := by unfold row; blk_ext [o]
  rw [hemb]
  refine Eq.trans (congrArg _ hy) ?_
  refine (out9_at (blk0 m c t) (blk1 m c t) (blk2 m c t) (blk3 m c t) (blk4 m c t) (blk5 m c t) (blk6 m c t) (blk7 m c t) (blk8 m c t) (y 0) (y 1)).trans ?_
  exact (hid_eq m c t (y 0) (y 1)).trans (Cert.Reference4Ideal.Proj.norm_at _ _ _ _ _).symm

/-- The product of two parts of the projection. -/
theorem final10 : (dats m 0 c).arrAt 10 cfg0.N = val_main_v100 (F := Ideal) (A0 m c) (A1 m c) (A2 m c) (A3 m c) := by
  refine (dats m 0 c).arrAt_eq_of_covers 10 _ (by decide +kernel) fun t _ y => ?_
  blk_simp
  rw [after0_10]
  have o := (odx t).2.1
  have hy : y = ix2 (y 0) (y 1) := by funext a; match a with | ⟨0, _⟩ => rfl | ⟨1, _⟩ => rfl
  have hemb : ((cfg0.win 10).blk t).view.emb y = ix2 (row t (y 0)) (y 1) := by unfold row; blk_ext [o]
  have hy1 : (y 1).val < 512 := (y 1).isLt
  rw [hemb]
  refine Eq.trans (congrArg _ hy) ?_
  refine (out10_at (blk0 m c t) (blk1 m c t) (blk2 m c t) (blk3 m c t) (blk4 m c t) (blk5 m c t) (blk6 m c t) (blk7 m c t) (blk8 m c t) (y 0) (y 1)).trans ?_
  refine Eq.trans ?_ (Cert.Reference4Ideal.Proj.u_at _ _ _ _ _ (y 1)).symm
  exact congrArg₂ (· * ·) (nat_eq m c t (y 0) _ _ fun k => w_plain m c k ⟨1024 + (y 1).val, by omega⟩)
    (nat_eq m c t (y 0) _ _ fun k => w_plain m c k ⟨(y 1).val, by omega⟩)

/-- The second part of the projection. -/
theorem final11 : (dats m 0 c).arrAt 11 cfg0.N = val_main_v101 (F := Ideal) (A0 m c) (A1 m c) (A2 m c) (A3 m c) := by
  refine (dats m 0 c).arrAt_eq_of_covers 11 _ (by decide +kernel) fun t _ y => ?_
  blk_simp
  rw [after0_11]
  have o := (odx t).2.2.1
  have hy : y = ix2 (y 0) (y 1) := by funext a; match a with | ⟨0, _⟩ => rfl | ⟨1, _⟩ => rfl
  have hemb : ((cfg0.win 11).blk t).view.emb y = ix2 (row t (y 0)) (y 1) := by unfold row; blk_ext [o]
  have hy1 : (y 1).val < 512 := (y 1).isLt
  rw [hemb]
  refine Eq.trans (congrArg _ hy) ?_
  refine (out11_at (blk0 m c t) (blk1 m c t) (blk2 m c t) (blk3 m c t) (blk4 m c t) (blk5 m c t) (blk6 m c t) (blk7 m c t) (blk8 m c t) (y 0) (y 1)).trans ?_
  refine Eq.trans ?_ (Cert.Reference4Ideal.Proj.ab_at _ _ _ _ _ (y 1)).symm
  exact nat_eq m c t (y 0) _ _ fun k => w_plain m c k ⟨512 + (y 1).val, by omega⟩

/-- The differential attention's keys. -/
theorem final12 : (dats m 0 c).arrAt 12 cfg0.N = val_main_v102 (F := Ideal) (A0 m c) (A1 m c) (A2 m c) (A3 m c) (A4 m c) (A5 m c) := by
  refine (dats m 0 c).arrAt_eq_of_covers 12 _ (by decide +kernel) fun t _ y => ?_
  blk_simp
  rw [after0_12]
  have o := (odx t).2.2.2.1
  have hy : y = ix3 (y 0) (y 1) (y 2) := by funext a; match a with | ⟨0, _⟩ => rfl | ⟨1, _⟩ => rfl | ⟨2, _⟩ => rfl
  have hemb : ((cfg0.win 12).blk t).view.emb y = ix3 (y 0) (row t (y 1)) (y 2) := by unfold row; blk_ext [o]
  rw [hemb]
  refine Eq.trans (congrArg _ hy) ?_
  refine (out12_at (blk0 m c t) (blk1 m c t) (blk2 m c t) (blk3 m c t) (blk4 m c t) (blk5 m c t) (blk6 m c t) (blk7 m c t) (blk8 m c t) (y 0) (y 1) (y 2)).trans ?_
  refine Eq.trans ?_ (Cert.Reference4Ideal.Proj.key_at _ _ _ _ _ _ (y 0) _ (y 2)).symm
  exact turn_congr (fun l => nat_eq m c t (y 1) _ _ fun k => w_key m c k (y 0) l) (read5 m c t (y 1)) (read6 m c t (y 1)) (y 2)

/-- The windowed attention's key. -/
theorem final13 : (dats m 0 c).arrAt 13 cfg0.N = val_main_v103 (F := Ideal) (A0 m c) (A1 m c) (A2 m c) (A3 m c) (A4 m c) (A5 m c) := by
  refine (dats m 0 c).arrAt_eq_of_covers 13 _ (by decide +kernel) fun t _ y => ?_
  blk_simp
  rw [after0_13]
  have o := (odx t).2.2.2.2.1
  have hy : y = ix2 (y 0) (y 1) := by funext a; match a with | ⟨0, _⟩ => rfl | ⟨1, _⟩ => rfl
  have hemb : ((cfg0.win 13).blk t).view.emb y = ix2 (row t (y 0)) (y 1) := by unfold row; blk_ext [o]
  rw [hemb]
  refine Eq.trans (congrArg _ hy) ?_
  refine (out13_at (blk0 m c t) (blk1 m c t) (blk2 m c t) (blk3 m c t) (blk4 m c t) (blk5 m c t) (blk6 m c t) (blk7 m c t) (blk8 m c t) (y 0) (y 1)).trans ?_
  refine Eq.trans ?_ (Cert.Reference4Ideal.Proj.skey_at _ _ _ _ _ _ _ (y 1)).symm
  exact turn_congr (fun l => nat_eq m c t (y 0) _ _ fun k => w_skey m c k l) (read5 m c t (y 0)) (read6 m c t (y 0)) (y 1)

/-- The differential attention's queries. -/
theorem final14 : (dats m 0 c).arrAt 14 cfg0.N = val_main_v104 (F := Ideal) (A0 m c) (A1 m c) (A2 m c) (A3 m c) (A6 m c) (A7 m c) := by
  refine (dats m 0 c).arrAt_eq_of_covers 14 _ (by decide +kernel) fun t _ y => ?_
  blk_simp
  rw [after0_14]
  have o := (odx t).2.2.2.2.2.1
  have hy : y = ix3 (y 0) (y 1) (y 2) := by funext a; match a with | ⟨0, _⟩ => rfl | ⟨1, _⟩ => rfl | ⟨2, _⟩ => rfl
  have hemb : ((cfg0.win 14).blk t).view.emb y = ix3 (y 0) (y 1) (row t (y 2)) := by unfold row; blk_ext [o]
  rw [hemb]
  refine Eq.trans (congrArg _ hy) ?_
  refine (out14_at (blk0 m c t) (blk1 m c t) (blk2 m c t) (blk3 m c t) (blk4 m c t) (blk5 m c t) (blk6 m c t) (blk7 m c t) (blk8 m c t) (y 0) (y 1) (y 2)).trans ?_
  refine Eq.trans ?_ (Cert.Reference4Ideal.Proj.query_at _ _ _ _ _ _ (y 0) (y 1) _).symm
  exact congrArg (· * _) (turn_congr (fun l => tr_eq m c t (y 2) _ _ fun k => w_query m c k (y 0) l) (read7 m c t (y 2)) (read8 m c t (y 2)) (y 1))

/-- The differential attention's values. -/
theorem final15 : (dats m 0 c).arrAt 15 cfg0.N = val_main_v105 (F := Ideal) (A0 m c) (A1 m c) (A2 m c) (A3 m c) := by
  refine (dats m 0 c).arrAt_eq_of_covers 15 _ (by decide +kernel) fun t _ y => ?_
  blk_simp
  rw [after0_15]
  have o := (odx t).2.2.2.2.2.2.1
  have ht := (idx t).2.2.2.2.2.2.2.2.2
  have hy : y = ix4 (y 0) (y 1) (y 2) (y 3) := by
    funext a; match a with | ⟨0, _⟩ => rfl | ⟨1, _⟩ => rfl | ⟨2, _⟩ => rfl | ⟨3, _⟩ => rfl
  have hy1 : (y 1).val < 1 := (y 1).isLt
  have hemb : ((cfg0.win 15).blk t).view.emb y = ix4 (y 0) (⟨t.val, ht⟩ : Fin 32) (y 2) (y 3) := by blk_ext [o]
  rw [hemb]
  refine Eq.trans (congrArg _ hy) ?_
  refine (out15_at (blk0 m c t) (blk1 m c t) (blk2 m c t) (blk3 m c t) (blk4 m c t) (blk5 m c t) (blk6 m c t) (blk7 m c t) (blk8 m c t) (y 0) (y 1) (y 2) (y 3)).trans ?_
  refine Eq.trans ?_ (Cert.Reference4Ideal.Proj.value_at _ _ _ _ (y 0) _ (y 2) (y 3)).symm
  exact tr_eq m c t (y 3) _ _ fun k => w_value m c k (y 0) (y 2)

/-- The windowed attention's queries. -/
theorem final16 : (dats m 0 c).arrAt 16 cfg0.N = val_main_v106 (F := Ideal) (A0 m c) (A1 m c) (A2 m c) (A3 m c) (A6 m c) (A7 m c) := by
  refine (dats m 0 c).arrAt_eq_of_covers 16 _ (by decide +kernel) fun t _ y => ?_
  blk_simp
  rw [after0_16]
  have o := (odx t).2.2.2.2.2.2.2.1
  have hy : y = ix3 (y 0) (y 1) (y 2) := by funext a; match a with | ⟨0, _⟩ => rfl | ⟨1, _⟩ => rfl | ⟨2, _⟩ => rfl
  have hemb : ((cfg0.win 16).blk t).view.emb y = ix3 (y 0) (y 1) (row t (y 2)) := by unfold row; blk_ext [o]
  rw [hemb]
  refine Eq.trans (congrArg _ hy) ?_
  refine (out16_at (blk0 m c t) (blk1 m c t) (blk2 m c t) (blk3 m c t) (blk4 m c t) (blk5 m c t) (blk6 m c t) (blk7 m c t) (blk8 m c t) (y 0) (y 1) (y 2)).trans ?_
  refine Eq.trans ?_ (Cert.Reference4Ideal.Proj.squery_at _ _ _ _ _ _ (y 0) (y 1) _).symm
  exact congrArg (· * _) (turn_congr (fun l => tr_eq m c t (y 2) _ _ fun k => w_squery m c k (y 0) l) (read7 m c t (y 2)) (read8 m c t (y 2)) (y 1))

/-- The windowed attention's values. -/
theorem final17 : (dats m 0 c).arrAt 17 cfg0.N = val_main_v107 (F := Ideal) (A0 m c) (A1 m c) (A2 m c) (A3 m c) := by
  refine (dats m 0 c).arrAt_eq_of_covers 17 _ (by decide +kernel) fun t _ y => ?_
  blk_simp
  rw [after0_17]
  have o := (odx t).2.2.2.2.2.2.2.2
  have hy : y = ix2 (y 0) (y 1) := by funext a; match a with | ⟨0, _⟩ => rfl | ⟨1, _⟩ => rfl
  have hemb : ((cfg0.win 17).blk t).view.emb y = ix2 (y 0) (row t (y 1)) := by unfold row; blk_ext [o]
  rw [hemb]
  refine Eq.trans (congrArg _ hy) ?_
  refine (out17_at (blk0 m c t) (blk1 m c t) (blk2 m c t) (blk3 m c t) (blk4 m c t) (blk5 m c t) (blk6 m c t) (blk7 m c t) (blk8 m c t) (y 0) (y 1)).trans ?_
  refine Eq.trans ?_ (Cert.Reference4Ideal.Proj.svalue_at _ _ _ _ (y 0) _).symm
  exact tr_eq m c t (y 1) _ _ fun k => w_svalue m c k (y 0)

end Cert.Kernel4Ideal.Proj

end
-- ==== Proof.Table.lean ====
module

public import proofs.«01_k».proof.Proof.Gen.Kernel5Ideal.Value
public import proofs.«01_k».proof.Proof.Gen.Reference5Ideal.Read
public import proofs.«01_k».proof.Defs
public import Idealize.ShloMosaic.Lib.StableHlo.ReadAt
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Table

open Cert.Kernel5Ideal Cert.Kernel5Ideal.Gen Idealize.ShloMosaic Idealize.ShloMosaic.TcCoe Idealize.SL.Sem
open Idealize.ShloMosaic.Pipeline (Dat)
open Cert.Reference5Ideal.Read

/-! ## The table's entries -/

/-- The cosine of the angle of pair `k` mod 32. -/
def cosAt (a : Fin 32 → EReal) (k : Fin 128) : EReal := Ideal.cos (a ⟨k.val % 32, by omega⟩)

/-- The sine of the angle of pair `k` mod 32, negative on the first two quarters. -/
def sinAt (a : Fin 32 → EReal) (k : Fin 128) : EReal :=
  if k.val < 64 then -Ideal.sin (a ⟨k.val % 32, by omega⟩) else Ideal.sin (a ⟨k.val % 32, by omega⟩)

/-- Four quarters laid one after the other, read at `k`. -/
theorem quarters {β : Type} (f g : Fin 32 → β) (k : Fin 128) :
    (if h : k.val < 32 then f ⟨k.val, h⟩ else if h : k.val - 32 < 32 then f ⟨k.val - 32, h⟩
      else if h : k.val - 32 - 32 < 32 then g ⟨k.val - 32 - 32, h⟩ else g ⟨k.val - 32 - 32 - 32, by omega⟩)
    = if k.val < 64 then f ⟨k.val % 32, by omega⟩ else g ⟨k.val % 32, by omega⟩ := by
  have e (f : Fin 32 → β) (a : ℕ) (h : a < 32) (ha : a = k.val % 32) : f ⟨a, h⟩ = f ⟨k.val % 32, by omega⟩ := congrArg f (Fin.ext ha)
  split_ifs
  all_goals first | omega | exact e _ _ _ (by omega)

/-! ## What the stored values are, entry by entry -/

section Payloads

variable (v : Vec Ideal S32x1 .f32) (p : Vec Ideal S1x512 .i32)

/-- The angles of a tile: frequency times position. -/
theorem pay1_at (k : Fin 32) (j : Fin 512) : k0_pay1 v p (ix2 k j) = v (ix2 k 0) * FloatOps.sitofp (F := Ideal) .f32 (p (ix2 0 j)) := by
  unfold_payloads
  pointwise []

/-- The cosines of a tile, a column per position. -/
theorem pay2_at (k : Fin 128) (j : Fin 512) : k0_pay2 v p (ix2 k j) = cosAt (fun i => k0_pay1 v p (ix2 i j)) k := by
  unfold k0_pay2
  generalize k0_pay1 v p = y
  pointwise []
  exact (quarters (fun i => Ideal.cos (y (ix2 i j))) (fun i => Ideal.cos (y (ix2 i j))) k).trans (ite_self _)

/-- The signed sines of a tile, a column per position. -/
theorem pay3_at (k : Fin 128) (j : Fin 512) : k0_pay3 v p (ix2 k j) = sinAt (fun i => k0_pay1 v p (ix2 i j)) k := by
  unfold k0_pay3
  generalize k0_pay1 v p = y
  pointwise []
  simp only [zero_sub]
  exact quarters (fun i => -Ideal.sin (y (ix2 i j))) (fun i => Ideal.sin (y (ix2 i j))) k

/-- The cosines of a tile, a row per position. -/
theorem pay4_at (j : Fin 512) (k : Fin 128) : k0_pay4 v p (ix2 j k) = k0_pay2 v p (ix2 k j) := by
  unfold k0_pay4
  generalize k0_pay2 v p = y
  pointwise []

/-- The signed sines of a tile, a row per position. -/
theorem pay5_at (j : Fin 512) (k : Fin 128) : k0_pay5 v p (ix2 j k) = k0_pay3 v p (ix2 k j) := by
  unfold k0_pay5
  generalize k0_pay3 v p = y
  pointwise []

end Payloads

/-! ## The reference's tables, entry by entry -/

section Tables

variable (x0 : (⟨S16384, .i32⟩ : BufTy).Contents (Elt Ideal))

/-- The angles of a position: frequency times position. -/
def angle (n : Fin 16384) (k : Fin 32) : EReal := val_main_v10 (F := Ideal) (ix1 k) * FloatOps.sitofp (F := Ideal) .f32 (x0 (ix1 n))

/-- The reference's angles. -/
theorem angle_at (n : Fin 16384) (k : Fin 32) : val_main_v16 (F := Ideal) x0 (ix2 n k) = angle x0 n k := by
  unfold angle val_main_v16 val_main_v15 val_main_v14 val_main_v13 val_main_v12 val_main_v11
  generalize val_main_v10 (F := Ideal) = y
  pointwise []
  exact mul_comm _ _

/-- The reference's cosines, a row per position. -/
theorem cos_at (n : Fin 16384) (k : Fin 128) : val_main_v19 (F := Ideal) x0 (ix2 n k) = cosAt (angle x0 n) k := by
  rw [← show (fun i => val_main_v16 (F := Ideal) x0 (ix2 n i)) = angle x0 n from funext (angle_at x0 n)]
  unfold val_main_v19 val_main_v17
  generalize val_main_v16 (F := Ideal) x0 = y
  pointwise []
  exact (quarters (fun i => Ideal.cos (y (ix2 n i))) (fun i => Ideal.cos (y (ix2 n i))) k).trans (ite_self _)

/-- The reference's signed sines, a row per position. -/
theorem sin_at (n : Fin 16384) (k : Fin 128) : val_main_v22 (F := Ideal) x0 (ix2 n k) = sinAt (angle x0 n) k := by
  rw [← show (fun i => val_main_v16 (F := Ideal) x0 (ix2 n i)) = angle x0 n from funext (angle_at x0 n)]
  unfold val_main_v22 val_main_v20 val_main_v21 val_main_v18
  generalize val_main_v16 (F := Ideal) x0 = y
  pointwise []
  exact quarters (fun i => -Ideal.sin (y (ix2 n i))) (fun i => Ideal.sin (y (ix2 n i))) k

/-- The reference's cosines, a column per position. -/
theorem cos_col_at (k : Fin 128) (n : Fin 16384) : val_main_v23 (F := Ideal) x0 (ix2 k n) = cosAt (angle x0 n) k := by
  have e := cos_at x0 n k
  revert e
  unfold val_main_v23
  generalize val_main_v19 (F := Ideal) x0 = y
  intro e
  pointwise []
  exact e

/-- The reference's signed sines, a column per position. -/
theorem sin_col_at (k : Fin 128) (n : Fin 16384) : val_main_v24 (F := Ideal) x0 (ix2 k n) = sinAt (angle x0 n) k := by
  have e := sin_at x0 n k
  revert e
  unfold val_main_v24
  generalize val_main_v22 (F := Ideal) x0 = y
  intro e
  pointwise []
  exact e

end Tables

/-! ## The tiles -/

variable (m : (ℓ : Loc nD τ sig) → Buf (Elt Ideal) ℓ) (c : Dev nD)

/-- The argument of the call, as an array. -/
abbrev A0 : (⟨S16384, .i32⟩ : BufTy).Contents (Elt Ideal) := m ((c : Thread nD τ).loc main_arg0)

/-- The frequencies the kernel is handed are the reference's. -/
theorem frequency (k : Fin 32) : V m c main_v12 (ix2 k 0) = val_main_v10 (F := Ideal) (ix1 k) := by
  unfold V
  after_reads_at
  unfold val_main_v10 val_main_v9 val_main_v8 val_main_v7 val_main_v6 val_main_v5 val_main_v4 val_main_v3 val_main_v2 val_main_v1 val_main_v0
    val_main_cst val_main_cst_0 val_main_cst_1 val_main_cst_2 val_main_cst_3
  pointwise []

/-- Where a grid point's blocks lie. -/
theorem idx : ∀ t : Fin cfg0.N, win0_0.index t = ![0, t.val] ∧ win0_1.index t = ![0, 0] ∧ win0_2.index t = ![t.val, 0]
    ∧ win0_3.index t = ![t.val, 0] ∧ win0_4.index t = ![0, t.val] ∧ win0_5.index t = ![0, t.val] ∧ t.val < 32 :=
  (by decide +kernel : ∀ t : Fin grid0.N, _)

variable (t : Fin cfg0.N)

/-- Position `j` of tile `t`, in the whole sequence. -/
def row (j : Fin 512) : Fin 16384 := ⟨512 * t.val + j.val, by have h := (idx t).2.2.2.2.2.2; omega⟩

/-- A tile's blocks, as the body takes them. -/
abbrev blk0 : Vec Ideal S1x512 .i32 := iblk m c 0 t
abbrev blk1 : Vec Ideal S32x1 .f32 := iblk m c 1 t

/-- A tile's positions. -/
theorem read0 (j : Fin 512) : blk0 m c t (ix2 0 j) = A0 m c (ix1 (row t j)) := by
  show iblk m c 0 t (ix2 0 j) = _
  obtain ⟨i0, -⟩ := idx t
  unfold row A0
  blk_ext! [iblk, V, i0]

/-- A tile's frequencies. -/
theorem read1 (k : Fin 32) : blk1 m c t (ix2 k 0) = V m c main_v12 (ix2 k 0) := by
  show iblk m c 1 t (ix2 k 0) = _
  obtain ⟨-, i1, -⟩ := idx t
  blk_ext [iblk, i1]

/-- The angles of a tile are the reference's. -/
theorem tile_angle (j : Fin 512) : (fun i => k0_pay1 (blk1 m c t) (blk0 m c t) (ix2 i j)) = angle (A0 m c) (row t j) := by
  funext i
  rw [pay1_at, read0, read1, frequency]
  rfl

/-! ## The output arrays -/

/-- The cosines, a row per position. -/
theorem final2 : (dats m 0 c).arrAt 2 cfg0.N = val_main_v19 (F := Ideal) (A0 m c) := by
  refine (dats m 0 c).arrAt_eq_of_covers 2 _ (by decide +kernel) fun t _ y => ?_
  blk_simp
  rw [after0_2]
  have o := (idx t).2.2.1
  have hy : y = ix2 (y 0) (y 1) := by funext a; match a with | ⟨0, _⟩ => rfl | ⟨1, _⟩ => rfl
  have hemb : ((cfg0.win 2).blk t).view.emb y = ix2 (row t (y 0)) (y 1) := by unfold row; blk_ext [o]
  rw [hemb]
  refine Eq.trans (congrArg _ hy) ?_
  show out0_2 (blk0 m c t) (blk1 m c t) (ix2 (y 0) (y 1)) = _
  unfold out0_2
  simp (disch := decide) only [View.canon_cons_unit_lit', View.ld_unit_lit']
  refine (pay4_at _ _ (y 0) (y 1)).trans ((pay2_at _ _ (y 1) (y 0)).trans ?_)
  exact (congrArg (fun a => cosAt a (y 1)) (tile_angle m c t (y 0))).trans (cos_at _ _ _).symm

/-- The signed sines, a row per position. -/
theorem final3 : (dats m 0 c).arrAt 3 cfg0.N = val_main_v22 (F := Ideal) (A0 m c) := by
  refine (dats m 0 c).arrAt_eq_of_covers 3 _ (by decide +kernel) fun t _ y => ?_
  blk_simp
  rw [after0_3]
  have o := (idx t).2.2.2.1
  have hy : y = ix2 (y 0) (y 1) := by funext a; match a with | ⟨0, _⟩ => rfl | ⟨1, _⟩ => rfl
  have hemb : ((cfg0.win 3).blk t).view.emb y = ix2 (row t (y 0)) (y 1) := by unfold row; blk_ext [o]
  rw [hemb]
  refine Eq.trans (congrArg _ hy) ?_
  show out0_3 (blk0 m c t) (blk1 m c t) (ix2 (y 0) (y 1)) = _
  unfold out0_3
  simp (disch := decide) only [View.canon_cons_unit_lit', View.ld_unit_lit']
  refine (pay5_at _ _ (y 0) (y 1)).trans ((pay3_at _ _ (y 1) (y 0)).trans ?_)
  exact (congrArg (fun a => sinAt a (y 1)) (tile_angle m c t (y 0))).trans (sin_at _ _ _).symm

/-- The cosines, a column per position. -/
theorem final4 : (dats m 0 c).arrAt 4 cfg0.N = val_main_v23 (F := Ideal) (A0 m c) := by
  refine (dats m 0 c).arrAt_eq_of_covers 4 _ (by decide +kernel) fun t _ y => ?_
  blk_simp
  rw [after0_4]
  have o := (idx t).2.2.2.2.1
  have hy : y = ix2 (y 0) (y 1) := by funext a; match a with | ⟨0, _⟩ => rfl | ⟨1, _⟩ => rfl
  have hemb : ((cfg0.win 4).blk t).view.emb y = ix2 (y 0) (row t (y 1)) := by unfold row; blk_ext [o]
  rw [hemb]
  refine Eq.trans (congrArg _ hy) ?_
  show out0_4 (blk0 m c t) (blk1 m c t) (ix2 (y 0) (y 1)) = _
  unfold out0_4
  simp (disch := decide) only [View.canon_cons_unit_lit', View.ld_unit_lit']
  refine (pay2_at _ _ (y 0) (y 1)).trans ?_
  exact (congrArg (fun a => cosAt a (y 0)) (tile_angle m c t (y 1))).trans (cos_col_at _ _ _).symm

/-- The signed sines, a column per position. -/
theorem final5 : (dats m 0 c).arrAt 5 cfg0.N = val_main_v24 (F := Ideal) (A0 m c) := by
  refine (dats m 0 c).arrAt_eq_of_covers 5 _ (by decide +kernel) fun t _ y => ?_
  blk_simp
  rw [after0_5]
  have o := (idx t).2.2.2.2.2.1
  have hy : y = ix2 (y 0) (y 1) := by funext a; match a with | ⟨0, _⟩ => rfl | ⟨1, _⟩ => rfl
  have hemb : ((cfg0.win 5).blk t).view.emb y = ix2 (y 0) (row t (y 1)) := by unfold row; blk_ext [o]
  rw [hemb]
  refine Eq.trans (congrArg _ hy) ?_
  show out0_5 (blk0 m c t) (blk1 m c t) (ix2 (y 0) (y 1)) = _
  unfold out0_5
  simp (disch := decide) only [View.canon_cons_unit_lit', View.ld_unit_lit']
  refine (pay3_at _ _ (y 0) (y 1)).trans ?_
  exact (congrArg (fun a => sinAt a (y 0)) (tile_angle m c t (y 1))).trans (sin_col_at _ _ _).symm

end Cert.Kernel5Ideal.Table

end
-- ==== Proof.WinSoft.lean ====
module

public import Idealize.ShloMosaic.PureOps.Ideal
public import Idealize.ShloMosaic.Lib.FinSumWindow
public import proofs.«01_k».proof.Proof.Stream

@[expose] public section

noncomputable section

namespace Cert.Window

open Idealize.ShloMosaic

/-- The weight of a key before normalisation: two to the score inside the window, nothing outside. -/
def weight {n : ℕ} (near : Fin n → Bool) (s : Fin n → ℝ) (k : Fin n) : ℝ := if near k then (2:ℝ) ^ s k else 0

/-- The total of the weights, with the sink's. -/
def total {n : ℕ} (near : Fin n → Bool) (s : Fin n → ℝ) (sink : ℝ) : ℝ := (∑ k, weight near s k) + Real.exp sink

/-- The average of the values over the keys inside the window under the softmax to base two of their scores, the sink taking its share of
the weight. -/
def avg {n : ℕ} (near : Fin n → Bool) (s : Fin n → ℝ) (sink : ℝ) (v : Fin n → EReal) : EReal :=
  ∑ k, v k * ((weight near s k / total near s sink : ℝ) : EReal)

/-- The total is positive. -/
theorem total_pos {n : ℕ} (near : Fin n → Bool) (s : Fin n → ℝ) (sink : ℝ) : 0 < total near s sink := by
  have h : 0 ≤ ∑ k, weight near s k := Finset.sum_nonneg fun k _ => by unfold weight; split <;> positivity
  have := Real.exp_pos sink
  unfold total
  linarith

/-- A nonnegative real factor distributes over a sum of extended reals. -/
theorem sum_mul_real {ι : Type*} (t : Finset ι) (f : ι → EReal) (c : ℝ) (hc : 0 ≤ c) : (∑ k ∈ t, f k) * (c : EReal) = ∑ k ∈ t, f k * (c : EReal) := by
  classical
  induction t using Finset.induction_on with
  | empty => simp
  | insert a t ha ih =>
    rw [Finset.sum_insert ha, Finset.sum_insert ha, ← ih, mul_comm, EReal.left_distrib_of_nonneg_of_ne_top (by exact_mod_cast hc) (EReal.coe_ne_top c),
      mul_comm (c : EReal), mul_comm (c : EReal)]

/-- The greatest of scores none of which is plus infinity, and of a real, is real. -/
theorem top_real {ι : Type*} (t : Finset ι) (f : ι → EReal) (h : ∀ k, f k < ⊤) (a : ℝ) : ∃ T : ℝ, max (t.fold max ⊥ f) (a : EReal) = T := by
  have h1 : max (t.fold max ⊥ f) (a : EReal) ≠ ⊤ :=
    (max_lt ((Finset.fold_max_lt (f := f) ⊤).mpr ⟨bot_lt_top, fun k _ => h k⟩) (EReal.coe_lt_top a)).ne
  have h2 : max (t.fold max ⊥ f) (a : EReal) ≠ ⊥ := ((EReal.bot_lt_coe a).trans_le (le_max_right _ _)).ne'
  exact ⟨_, (EReal.coe_toReal h1 h2).symm⟩

/-- A score, minus infinity outside the window. -/
def masked {n : ℕ} (near : Fin n → Bool) (s : Fin n → ℝ) (k : Fin n) : EReal := if near k then (s k : EReal) else ⊥

/-- No masked score is plus infinity. -/
theorem masked_lt {n : ℕ} (near : Fin n → Bool) (s : Fin n → ℝ) (k : Fin n) : masked near s k < ⊤ := by
  unfold masked
  split
  · exact EReal.coe_lt_top _
  · exact bot_lt_top

/-- Two to a masked score less a real. -/
theorem exp2_masked {n : ℕ} (near : Fin n → Bool) (s : Fin n → ℝ) (k : Fin n) (T : ℝ) :
    Ideal.exp2 (masked near s k - T) = ((weight near s k * (2:ℝ) ^ (-T) : ℝ) : EReal) := by
  unfold masked weight
  split
  · rw [← EReal.coe_sub, Ideal.exp2_coe, sub_eq_add_neg]
    exact congrArg _ (Real.rpow_add (by norm_num) _ _)
  · rw [EReal.bot_sub, Ideal.exp2_bot, zero_mul]
    rfl

/-- Two to the sink's logit in units of `log 2`, less a real. -/
theorem exp2_sink (sink T : ℝ) : Ideal.exp2 ((sink : EReal) * (((Real.log 2)⁻¹ : ℝ) : EReal) - T) = ((Real.exp sink * (2:ℝ) ^ (-T) : ℝ) : EReal) := by
  rw [← EReal.coe_mul, ← EReal.coe_sub, Ideal.exp2_coe, sub_eq_add_neg]
  refine congrArg _ ((Real.rpow_add (by norm_num) _ _).trans ?_)
  have h : Real.log 2 ≠ 0 := (Real.log_pos (by norm_num)).ne'
  rw [Real.rpow_def_of_pos (by norm_num) (sink * (Real.log 2)⁻¹), mul_comm (Real.log 2), mul_assoc, inv_mul_cancel₀ h, mul_one]

/-- The weighted values times the reciprocal of the weights' total: the average, whatever was subtracted from the scores. -/
theorem avg_pow {n : ℕ} (near : Fin n → Bool) (s : Fin n → ℝ) (sink T : ℝ) (v : Fin n → EReal) :
    (∑ k, v k * Ideal.exp2 (masked near s k - T))
        * Ideal.div 1 ((∑ k, Ideal.exp2 (masked near s k - T)) + Ideal.exp2 ((sink : EReal) * (((Real.log 2)⁻¹ : ℝ) : EReal) - T))
      = avg near s sink v := by
  simp only [exp2_masked, exp2_sink]
  have hc : 0 < (2:ℝ) ^ (-T) := by positivity
  have ht := total_pos near s sink
  rw [KernelIdeal.Attn.coe_sum, ← EReal.coe_add, ← Finset.sum_mul, ← add_mul]
  change _ * Ideal.div 1 ((total near s sink * (2:ℝ) ^ (-T) : ℝ) : EReal) = _
  rw [Ideal.div_coe (by positivity), one_mul, sum_mul_real _ _ _ (by positivity)]
  refine Finset.sum_congr rfl fun k _ => ?_
  rw [mul_assoc, ← EReal.coe_mul]
  refine congrArg (fun x : ℝ => v k * (x : EReal)) ?_
  field_simp

/-- The weights through natural exponentials of the scores times `log 2`, normalised key by key. -/
theorem weight_exp {n : ℕ} (near : Fin n → Bool) (s : Fin n → ℝ) (sink M : ℝ) (k : Fin n) :
    Ideal.div (Ideal.exp ((if near k then ((s k * Real.log 2 : ℝ) : EReal) else ⊥) - M))
        ((∑ k, Ideal.exp ((if near k then ((s k * Real.log 2 : ℝ) : EReal) else ⊥) - M)) + Ideal.exp ((sink : EReal) - M))
      = ((weight near s k / total near s sink : ℝ) : EReal) := by
  have h : ∀ k, Ideal.exp ((if near k then ((s k * Real.log 2 : ℝ) : EReal) else ⊥) - M) = ((weight near s k * Real.exp (-M) : ℝ) : EReal) := fun k => by
    unfold weight
    split
    · rw [← EReal.coe_sub, Ideal.exp_coe, sub_eq_add_neg, Real.exp_add, Real.rpow_def_of_pos (by norm_num), mul_comm (s k)]
    · rw [EReal.bot_sub, Ideal.exp_bot, zero_mul]
      rfl
  simp only [h]
  have hs : Ideal.exp ((sink : EReal) - M) = ((Real.exp sink * Real.exp (-M) : ℝ) : EReal) := by
    rw [← EReal.coe_sub, Ideal.exp_coe, sub_eq_add_neg, Real.exp_add]
  have hc := Real.exp_pos (-M)
  have ht := total_pos near s sink
  rw [hs, KernelIdeal.Attn.coe_sum, ← EReal.coe_add, ← Finset.sum_mul, ← add_mul]
  change Ideal.div _ ((total near s sink * Real.exp (-M) : ℝ) : EReal) = _
  rw [Ideal.div_coe (by positivity), ← EReal.coe_mul]
  refine congrArg (fun x : ℝ => (x : EReal)) ?_
  field_simp

/-- A sum over all keys of terms that vanish outside a tile's window is the sum over the window's 512 places, of which those before the first
key and after the last add nothing. -/
theorem sum_window {M : Type*} [AddCommMonoid M] (f : Fin 16384 → M) (i : ℕ) (hi : i < 64)
    (hf : ∀ k : Fin 16384, f k ≠ 0 → 256 * i ≤ k.val + 128 ∧ k.val + 128 < 256 * i + 512) :
    ∑ k, f k = ∑ r : Fin 512, if h : 128 ≤ 256 * i + r.val ∧ 256 * i + r.val < 16512 then f ⟨256 * i + r.val - 128, by omega⟩ else 0 := by
  let F : Fin 16640 → M := fun P => if h : 128 ≤ P.val ∧ P.val < 16512 then f ⟨P.val - 128, by omega⟩ else 0
  have h1 := FinSumWindow.sum_window (N := 16640) (W := 16384) 128 (by omega) F
    (fun P hP => dif_neg (by omega))
  have h2 := FinSumWindow.sum_window (N := 16640) (W := 512) (256 * i) (by omega) F (fun P hP => by
    by_cases h : 128 ≤ P.val ∧ P.val < 16512
    · refine (dif_pos h).trans ?_
      by_contra hne
      have := hf _ hne
      simp only at this
      omega
    · exact dif_neg h)
  refine Eq.trans ?_ (h1.symm.trans h2)
  refine Finset.sum_congr rfl fun k _ => ?_
  have hk : 128 ≤ 128 + k.val ∧ 128 + k.val < 16512 := by omega
  refine Eq.symm ((dif_pos hk).trans (congrArg f (Fin.ext ?_)))
  show 128 + k.val - 128 = k.val
  omega

/-- The average over a tile's 512 places is the average over all keys. -/
theorem avg_window (i : ℕ) (hi : i < 64) (near : Fin 512 → Bool) (s : Fin 512 → ℝ) (v : Fin 512 → EReal) (near' : Fin 16384 → Bool) (s' : Fin 16384 → ℝ)
    (v' : Fin 16384 → EReal) (sink : ℝ)
    (hout : ∀ r, ¬(128 ≤ 256 * i + r.val ∧ 256 * i + r.val < 16512) → near r = false)
    (hnear : ∀ (r : Fin 512) (k : Fin 16384), k.val + 128 = 256 * i + r.val → near r = near' k)
    (hs : ∀ (r : Fin 512) (k : Fin 16384), k.val + 128 = 256 * i + r.val → s r = s' k)
    (hv : ∀ (r : Fin 512) (k : Fin 16384), k.val + 128 = 256 * i + r.val → v r = v' k)
    (hwin : ∀ k : Fin 16384, near' k = true → 256 * i ≤ k.val + 128 ∧ k.val + 128 < 256 * i + 512) :
    avg near s sink v = avg near' s' sink v' := by
  have hz : ∀ k, near' k ≠ true → weight near' s' k = 0 := fun k h => if_neg h
  have hw : ∀ r : Fin 512, weight near s r
      = if h : 128 ≤ 256 * i + r.val ∧ 256 * i + r.val < 16512 then weight near' s' ⟨256 * i + r.val - 128, by omega⟩ else 0 := fun r => by
    split <;> rename_i h
    · have e : (⟨256 * i + r.val - 128, by omega⟩ : Fin 16384).val + 128 = 256 * i + r.val := by show 256 * i + r.val - 128 + 128 = _; omega
      unfold weight
      rw [hnear r _ e, hs r _ e]
    · exact if_neg (by rw [hout r h]; decide)
  have ht : total near s sink = total near' s' sink := by
    unfold total
    rw [sum_window (fun k => weight near' s' k) i hi fun k hk => hwin k (by by_contra h; exact hk (hz k h))]
    exact congrArg (· + _) (Finset.sum_congr rfl fun r _ => hw r)
  unfold avg
  rw [sum_window (fun k => v' k * ((weight near' s' k / total near' s' sink : ℝ) : EReal)) i hi fun k hk => hwin k (by
    by_contra h
    refine hk ?_
    rw [hz k h, zero_div]
    exact mul_zero _)]
  refine Finset.sum_congr rfl fun r _ => ?_
  rw [hw, ht]
  split <;> rename_i h
  · have e : (⟨256 * i + r.val - 128, by omega⟩ : Fin 16384).val + 128 = 256 * i + r.val := by show 256 * i + r.val - 128 + 128 = _; omega
    rw [hv r _ e]
  · rw [zero_div]
    exact mul_zero _

end Cert.Window

end
-- ==== Proof.WinBlock.lean ====
module

public import proofs.«01_k».proof.Proof.Gen.Kernel6Ideal.Value
public import proofs.«01_k».proof.Proof.Attend
public import proofs.«01_k».proof.Proof.WinSoft
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel6Ideal.Win

open Cert.Kernel6Ideal Cert.Kernel6Ideal.Gen Idealize.ShloMosaic
open Cert.Attn (dots)
open Cert.Window (avg masked)

/-! ## One head -/

/-- One head of a tile: the values (with rows of ones below them) against the weights, over the ones' row and the sink's weight. -/
def head (v : FVec Ideal S80x512 .bf16) (s : FVec Ideal S512x256 .f32) (u : FVec Ideal S1x1 .f32) : FVec Ideal S64x256 .f32 :=
  k0_pay41 v (k0_pay25 s u) (k0_pay26 s u)

/-- What is subtracted from a query's scores: the greatest of them and of the sink's logit. -/
def top (s : FVec Ideal S512x256 .f32) (u : FVec Ideal S1x1 .f32) (j : Fin 256) : EReal :=
  max (Finset.fold max ⊥ (fun k : Fin 512 => s (ix2 k j)) Finset.univ) (u (ix2 0 0))

/-- What a head subtracts is that greatest. -/
theorem top_apply (s : FVec Ideal S512x256 .f32) (u : FVec Ideal S1x1 .f32) (j : Fin 256) : k0_pay24 s u (ix2 0 j) = top s u j := by
  unfold top
  rw [show (⊥ : EReal) = Ideal.ofBits .f32 0xFF800000#32 by simp [Ideal.ofBits, Ideal.ieee]]
  unfold_payloads
  pointwise []

/-- A key's weight: two to its score less the greatest. -/
theorem weight_apply (s : FVec Ideal S512x256 .f32) (u : FVec Ideal S1x1 .f32) (k : Fin 512) (j : Fin 256) :
    k0_pay25 s u (ix2 k j) = Ideal.exp2 (s (ix2 k j) - top s u j) := by
  rw [← top_apply]
  unfold k0_pay25
  generalize k0_pay24 s u = T
  pointwise []
  rfl

/-- The sink's weight: two to its logit less the greatest. -/
theorem sink_apply (s : FVec Ideal S512x256 .f32) (u : FVec Ideal S1x1 .f32) (j : Fin 256) :
    k0_pay26 s u (ix2 0 j) = Ideal.exp2 (u (ix2 0 0) - top s u j) := by
  rw [← top_apply]
  unfold k0_pay26
  generalize k0_pay24 s u = T
  pointwise []
  rfl

/-- One head at a channel and a query. -/
theorem head_apply (v : FVec Ideal S80x512 .bf16) (s : FVec Ideal S512x256 .f32) (u : FVec Ideal S1x1 .f32) (e : Fin 64) (j : Fin 256) :
    head v s u (ix2 e j)
      = (∑ k : Fin 512, v (ix2 ⟨e.val, by omega⟩ k) * Ideal.exp2 (s (ix2 k j) - top s u j))
          * Ideal.div 1 ((∑ k : Fin 512, v (ix2 64 k) * Ideal.exp2 (s (ix2 k j) - top s u j)) + Ideal.exp2 (u (ix2 0 0) - top s u j)) := by
  simp only [← weight_apply, ← sink_apply]
  unfold head
  generalize k0_pay25 s u = w
  generalize k0_pay26 s u = z
  unfold_payloads
  pointwise [dot_S80x512_S512x256_S80x256_1_0_0_1_n_n]

/-- One head of masked real scores and a real sink is the window's average. -/
theorem head_avg (v : FVec Ideal S80x512 .bf16) (s : FVec Ideal S512x256 .f32) (u : FVec Ideal S1x1 .f32) (e : Fin 64) (j : Fin 256)
    (near : Fin 512 → Bool) (a : Fin 512 → ℝ) (sink : ℝ) (hv : ∀ k, v (ix2 64 k) = 1) (hs : ∀ k, s (ix2 k j) = masked near a k)
    (hu : u (ix2 0 0) = (sink : EReal) * (((Real.log 2)⁻¹ : ℝ) : EReal)) :
    head v s u (ix2 e j) = avg near a sink fun k => v (ix2 ⟨e.val, by omega⟩ k) := by
  obtain ⟨T, hT⟩ := Cert.Window.top_real Finset.univ (masked near a) (Cert.Window.masked_lt near a) (sink * (Real.log 2)⁻¹)
  have ht : top s u j = T := by
    rw [← hT, top, hu, EReal.coe_mul]
    simp only [hs]
  rw [head_apply, ht]
  simp only [hs, hu, hv, one_mul]
  exact Cert.Window.avg_pow near a sink T _

/-! ## The tile's operands -/

/-- The keys of a tile: 128 before it, its own 256, 128 after it. -/
theorem keys_apply (v0 : Vec Ideal S128x128 .bf16) (v1 : Vec Ideal S256x128 .bf16) (v2 : Vec Ideal S128x128 .bf16) (r : Fin 512) (d : Fin 128) :
    k0_pay2 v0 v1 v2 (ix2 r d) = if h : r.val < 128 then v0 (ix2 ⟨r.val, h⟩ d)
      else if h' : r.val - 128 < 256 then v1 (ix2 ⟨r.val - 128, by omega⟩ d) else v2 (ix2 ⟨r.val - 128 - 256, by omega⟩ d) := by
  unfold_payloads
  pointwise []

/-- The values of a tile's keys. -/
theorem values_apply (v4 : Vec Ideal S128x128 .bf16) (v5 : Vec Ideal S128x256 .bf16) (v6 : Vec Ideal S128x128 .bf16) (c : Fin 128) (r : Fin 512) :
    k0_pay3 v4 v5 v6 (ix2 c r) = if h : r.val < 128 then v4 (ix2 c ⟨r.val, h⟩)
      else if h' : r.val - 128 < 256 then v5 (ix2 c ⟨r.val - 128, by omega⟩) else v6 (ix2 c ⟨r.val - 128 - 256, by omega⟩) := by
  unfold_payloads
  pointwise []

/-- The first key head's values, with ones below. -/
theorem first_values (v4 : Vec Ideal S128x128 .bf16) (v5 : Vec Ideal S128x256 .bf16) (v6 : Vec Ideal S128x128 .bf16) (e : Fin 80) (r : Fin 512) :
    k0_pay7 v4 v5 v6 (ix2 e r) = if h : e.val < 64 then k0_pay3 v4 v5 v6 (ix2 ⟨e.val, by omega⟩ r) else 1 := by
  unfold k0_pay7 k0_pay6
  generalize k0_pay3 v4 v5 v6 = y
  pointwise []

/-- The second key head's values, with ones below. -/
theorem second_values (y : FVec Ideal S128x512 .bf16) (e : Fin 80) (r : Fin 512) :
    k0_pay8 y (k0_pay6 (F := Ideal)) (ix2 e r) = if h : e.val < 64 then y (ix2 ⟨64 + e.val, by omega⟩ r) else 1 := by
  unfold k0_pay8 k0_pay6
  pointwise []

/-- A score against the first key head. -/
theorem first_score (k : FVec Ideal S512x128 .bf16) (b : FVec Ideal S512x256 .f32) (q : Vec Ideal S1x128x256 .bf16) (r : Fin 512) (j : Fin 256)
    (hq : ∀ d, ∃ a : ℝ, q (ix3 0 d j) = a) (hk : ∀ d, ∃ a : ℝ, k (ix2 r d) = a) :
    k0_pay12 k b q (ix2 r j) = (dots 0 (fun d => q (ix3 0 d j)) (fun d => k (ix2 r d)) : ℝ) + b (ix2 r j) := by
  rw [← Cert.KernelIdeal.Attn.masked_sum 0 _ _ hq hk]
  unfold k0_pay12
  have h : ∀ d : Fin 128, select k0_pay10 (k0_pay9 q) (k0_pay11 (F := Ideal)) (ix2 d j) = if d.val / 32 % 2 = 0 then q (ix3 0 d j) else 0 := fun d => by
    unfold_payloads
    pointwise []
    rw [Cert.KernelIdeal.Attn.stream_bit]
    split <;> simp [Scalar.select]
  revert h
  generalize select k0_pay10 (k0_pay9 q) (k0_pay11 (F := Ideal)) = y
  intro h
  simp only [Fin.val_zero, ← h]
  pointwise [dot_S512x128_S128x256_S512x256_1_0_0_1_n_n]

/-- A score against the second key head. -/
theorem second_score (k : FVec Ideal S512x128 .bf16) (b : FVec Ideal S512x256 .f32) (q : Vec Ideal S1x128x256 .bf16) (r : Fin 512) (j : Fin 256)
    (hq : ∀ d, ∃ a : ℝ, q (ix3 0 d j) = a) (hk : ∀ d, ∃ a : ℝ, k (ix2 r d) = a) :
    k0_pay13 k b q (ix2 r j) = (dots 1 (fun d => q (ix3 0 d j)) (fun d => k (ix2 r d)) : ℝ) + b (ix2 r j) := by
  rw [← Cert.KernelIdeal.Attn.masked_sum 1 _ _ hq hk]
  unfold k0_pay13
  have h : ∀ d : Fin 128, select k0_pay10 (k0_pay11 (F := Ideal)) (k0_pay9 q) (ix2 d j) = if d.val / 32 % 2 = 1 then q (ix3 0 d j) else 0 := fun d => by
    unfold_payloads
    pointwise []
    rw [Cert.KernelIdeal.Attn.stream_bit]
    rcases Nat.mod_two_eq_zero_or_one (d.val / 32) with h | h <;> simp [Scalar.select, h]
  revert h
  generalize select k0_pay10 (k0_pay11 (F := Ideal)) (k0_pay9 q) = y
  intro h
  simp only [Fin.val_one, ← h]
  pointwise [dot_S512x128_S128x256_S512x256_1_0_0_1_n_n]

/-- A sink's logit in units of `log 2`. -/
theorem logit_apply (x0 : Vec Ideal S1x8 .f32) (h : Fin 8) : k0_pay4 x0 (ix2 0 h) = x0 (ix2 0 h) * (((Real.log 2)⁻¹ : ℝ) : EReal) := by
  have e : Named.named (F := Ideal) Cert.Kernel6Ideal.κ "log2e" (φ := .f32) 0x3FB8AA3B#32 = (((Real.log 2)⁻¹ : ℝ) : EReal) :=
    IdealRules.named_const.ideal_named_scalar _ _ _ _ rfl
  rw [← e]
  unfold_payloads
  pointwise []

/-! ## The window's mask -/

/-- Whether a place of a tile's window holds a key, and one within 128 of the tile's query `c`. -/
def near (i : ℕ) (c : Fin 256) (r : Fin 512) : Bool :=
  decide (128 ≤ 256 * i + r.val ∧ 256 * i + r.val < 16512 ∧ c.val ≤ r.val ∧ r.val ≤ c.val + 256)

/-- Small numbers compare as 32-bit integers the way they do as numbers. -/
theorem sle_ofNat (a b : ℕ) (ha : a < 2 ^ 31) (hb : b < 2 ^ 31) : (BitVec.ofNat 32 a).sle (BitVec.ofNat 32 b) = decide (a ≤ b) := by
  have h : ∀ n < 2 ^ 31, (BitVec.ofNat 32 n).toInt = n := fun n hn => by
    rw [BitVec.toInt_ofNat']
    exact Int.bmod_eq_of_le (by omega) (by omega)
  rw [BitVec.sle, h a ha, h b hb]
  exact decide_eq_decide.mpr Int.ofNat_le

/-- The same of the strict comparison. -/
theorem slt_ofNat (a b : ℕ) (ha : a < 2 ^ 31) (hb : b < 2 ^ 31) : (BitVec.ofNat 32 a).slt (BitVec.ofNat 32 b) = decide (a < b) := by
  have h : ∀ n < 2 ^ 31, (BitVec.ofNat 32 n).toInt = n := fun n hn => by
    rw [BitVec.toInt_ofNat']
    exact Int.bmod_eq_of_le (by omega) (by omega)
  rw [BitVec.slt, h a ha, h b hb]
  exact decide_eq_decide.mpr Int.ofNat_lt

/-- What is added to a score: nothing inside the window, minus infinity outside. -/
theorem bias_apply (i : grid0.Coords) (hi : (i 0).val < 64) (r : Fin 512) (c : Fin 256) :
    k0_pay5 (F := Ideal) i (ix2 r c) = if near (i 0).val c r then 0 else ⊥ := by
  have e : Named.named (F := Ideal) Cert.Kernel6Ideal.κ "mask" (φ := .f32) 0xF149F2CA#32 = ⊥ :=
    IdealRules.named_const.ideal_named_scalar _ _ _ _ rfl
  rw [← e]
  unfold_payloads
  pointwise []
  generalize Named.named (F := Ideal) Cert.Kernel6Ideal.κ "mask" (φ := .f32) 0xF149F2CA#32 = w
  have h1 : Scalar.select (Scalar.cmpi CmpIPredicate.sgt (BitVec.ofNat 32 (i 0).val) 0#32) 0#32 128#32
      = BitVec.ofNat 32 (if 0 < (i 0).val then 0 else 128) := by
    simp only [Scalar.cmpi, IntOp.cmpi]
    rw [show (0#32).slt (BitVec.ofNat 32 (i 0).val) = decide (0 < (i 0).val) from slt_ofNat 0 _ (by omega) (by omega)]
    by_cases h : 0 < (i 0).val <;> simp [Scalar.select, h]
  have h2 : Scalar.select (Scalar.cmpi CmpIPredicate.slt (BitVec.ofNat 32 (i 0).val) 63#32) 512#32 384#32
      = BitVec.ofNat 32 (if (i 0).val < 63 then 512 else 384) := by
    simp only [Scalar.cmpi, IntOp.cmpi]
    rw [show (BitVec.ofNat 32 (i 0).val).slt 63#32 = decide ((i 0).val < 63) from slt_ofNat _ 63 (by omega) (by omega)]
    by_cases h : (i 0).val < 63 <;> simp [Scalar.select, h]
  rw [h1, h2]
  generalize hL : (if 0 < (i 0).val then 0 else 128) = L
  generalize hH : (if (i 0).val < 63 then 512 else 384) = H
  have bL : L ≤ 128 := by rw [← hL]; split <;> omega
  have bH : H ≤ 512 := by rw [← hH]; split <;> omega
  have h3 : IntOp.maxsi (BitVec.ofNat 32 c.val) (BitVec.ofNat 32 L) = BitVec.ofNat 32 (max c.val L) := by
    rw [IntOp.maxsi, slt_ofNat _ _ (by omega) (by omega)]
    by_cases h : L < c.val
    · rw [if_pos (decide_eq_true h), max_eq_left (by omega)]
    · rw [if_neg (by simpa using h), max_eq_right (by omega)]
  have h4 : IntOp.addi (BitVec.ofNat 32 c.val) 256#32 = BitVec.ofNat 32 (c.val + 256) := (BitVec.ofNat_add c.val 256).symm
  rw [h3, h4]
  simp only [IntOp.cmpi]
  rw [sle_ofNat _ _ (by omega) (by omega), sle_ofNat _ _ (by omega) (by omega), slt_ofNat _ _ (by omega) (by omega)]
  have hb : ∀ a b d : Bool, Scalar.select (IntOp.andi (IntOp.andi (BitVec.ofBool a) (BitVec.ofBool b)) (BitVec.ofBool d)) (0 : EReal) w
      = if (a && b && d) = true then 0 else w := fun a b d => by
    cases a <;> cases b <;> cases d <;> simp [Scalar.select, IntOp.andi]
  rw [hb, near]
  refine if_congr ?_ rfl rfl
  simp only [Bool.and_eq_true, decide_eq_true_eq]
  subst hL hH
  constructor
  · rintro ⟨⟨h5, h6⟩, h7⟩
    split at h5 <;> split at h7 <;> omega
  · rintro ⟨h5, h6, h7, h8⟩
    refine ⟨⟨?_, h8⟩, ?_⟩ <;> split <;> omega

/-! ## The tile -/

/-- The heads of a tile stacked, one of each eight of 64 rows. -/
theorem stack_apply (a : Fin 8 → FVec Ideal S64x256 .f32) (h : Fin 8) (e : Fin 64) (j : Fin 256) :
    concatenate S512x256 0 [⟨S64x256, a 0⟩, ⟨S64x256, a 1⟩, ⟨S64x256, a 2⟩, ⟨S64x256, a 3⟩, ⟨S64x256, a 4⟩, ⟨S64x256, a 5⟩, ⟨S64x256, a 6⟩, ⟨S64x256, a 7⟩]
      concatenates_S64x256_S64x256_S64x256_S64x256_S64x256_S64x256_S64x256_S64x256_S512x256_d0 (ix2 (⟨64 * h.val + e.val, by omega⟩ : Fin 512) j)
      = a h (ix2 e j) := by
  match h with
  | 0 | 1 => pointwise []
  | 2 | 3 | 4 | 5 | 6 | 7 =>
    pointwise []
    repeat first | rw [dif_neg (by omega)] | rw [dif_pos (by omega)]
    exact congrArg (fun n => a _ (ix2 n j)) (Fin.ext (by dsimp only; omega))

section Heads

variable (v : FVec Ideal S80x512 .bf16) (u : FVec Ideal S1x8 .f32) (s : FVec Ideal S512x256 .f32)

/-! Each head's text is the same function of its own scores and its own sink. -/

/-- Head zero. -/
theorem head_zero (k : FVec Ideal S512x128 .bf16) (b : FVec Ideal S512x256 .f32) (q : Vec Ideal S1x128x256 .bf16) :
    k0_pay40 v (k0_pay21 k u b q) (k0_pay22 k u b q) = head v (k0_pay12 k b q) (k0_pay19 u) := rfl

/-- Head one. -/
theorem head_one : k0_pay57 v (k0_pay34 u s) (k0_pay35 u s) = head v s (k0_pay32 u) := rfl

/-- Head two. -/
theorem head_two : mulf (k0_pay69 v (k0_pay49 u s)) (broadcastTo S64x256 (divf (broadcast S1x256 (Scalar.ofBits .f32 0x3F800000#32))
    (k0_pay68 v (k0_pay49 u s) (k0_pay50 u s))) broadcasts_S1x256_S64x256) = head v s (k0_pay47 u) := rfl

/-- Head three. -/
theorem head_three : k0_pay41 v (k0_pay61 u s) (k0_pay62 u s) = head v s (k0_pay59 u) := rfl

/-- Head four. -/
theorem head_four : k0_pay41 v (k0_pay25 s (k0_pay23 u)) (k0_pay26 s (k0_pay23 u)) = head v s (k0_pay23 u) := rfl

/-- Head five. -/
theorem head_five : k0_pay58 v (k0_pay38 u s) (k0_pay39 u s) = head v s (k0_pay36 u) := rfl

/-- Head six. -/
theorem head_six : k0_pay41 v (k0_pay55 s (k0_pay52 s) (k0_pay53 u)) (k0_pay56 (k0_pay51 u) (k0_pay52 s) (k0_pay53 u)) = head v s (k0_pay51 u) := rfl

/-- Head seven. -/
theorem head_seven : k0_pay41 v (k0_pay65 u s) (k0_pay66 u s) = head v s (k0_pay63 u) := rfl

/-- The last step: the eight heads stacked, transposed and rounded. -/
theorem store_eq (v' : FVec Ideal S80x512 .bf16) (a0 a1 a4 a5 : FVec Ideal S64x256 .f32) (w3 w6 w7 : FVec Ideal S512x256 .bf16)
    (z3 z6 z7 d2 : FVec Ideal S1x256 .f32) (n2 : FVec Ideal S64x256 .f32) (o : EReal) :
    k0_pay1 v v' a0 a4 w6 z6 a1 a5 w3 z3 w7 z7 d2 n2 o
      = truncf .bf16 (transpose S256x512 [1, 0] (concatenate S512x256 0 [⟨S64x256, a0⟩, ⟨S64x256, a1⟩,
        ⟨S64x256, mulf n2 (broadcastTo S64x256 (divf (broadcast S1x256 o) d2) broadcasts_S1x256_S64x256)⟩, ⟨S64x256, k0_pay41 v w3 z3⟩,
        ⟨S64x256, a4⟩, ⟨S64x256, a5⟩, ⟨S64x256, k0_pay41 v' w6 z6⟩, ⟨S64x256, k0_pay41 v' w7 z7⟩]
        concatenates_S64x256_S64x256_S64x256_S64x256_S64x256_S64x256_S64x256_S64x256_S512x256_d0) transposes_S512x256_p1_0_S256x512) bitsLt_bf16_f32 := rfl

variable (k : FVec Ideal S512x128 .bf16) (b : FVec Ideal S512x256 .f32) (q : Vec Ideal S1x128x256 .bf16)

/-! The later pairs' scores are the same functions of their own queries as the first pair's. -/

theorem first_one : k0_pay17 k b q = k0_pay12 k b q := rfl
theorem first_two : k0_pay30 k b q = k0_pay12 k b q := rfl
theorem first_three : k0_pay45 k b q = k0_pay12 k b q := rfl
theorem second_one : k0_pay18 k b q = k0_pay13 k b q := rfl
theorem second_two : k0_pay31 k b q = k0_pay13 k b q := rfl
theorem second_three : k0_pay46 k b q = k0_pay13 k b q := rfl

end Heads

section Tile

variable (i : grid0.Coords) (x0 : Vec Ideal S1x8 .f32) (x1 : Vec Ideal S4x128x256 .bf16) (x2 : Vec Ideal S128x128 .bf16) (x3 : Vec Ideal S256x128 .bf16)
  (x4 x5 : Vec Ideal S128x128 .bf16) (x6 : Vec Ideal S128x256 .bf16) (x7 : Vec Ideal S128x128 .bf16)

/-- The heads of a tile: pair `t`'s first head is head `t`, its second head `4 + t`. -/
def heads : Fin 8 → FVec Ideal S64x256 .f32 :=
  let k := k0_pay2 x2 x3 x4
  let u := k0_pay4 x0
  let b := k0_pay5 i
  let v := k0_pay7 x5 x6 x7
  let v' := k0_pay8 (k0_pay3 x5 x6 x7) k0_pay6
  let q (n : ℕ) (hn) := View.ld x1 (Rect.unit (s := S4x128x256) ![n, 0, 0] S1x128x256.size hn)
  ![head v (k0_pay12 k b (q 0 inb_S4x128x256_S1x128x256_0_0_0)) (k0_pay19 u), head v (k0_pay12 k b (q 1 inb_S4x128x256_S1x128x256_1_0_0)) (k0_pay32 u),
    head v (k0_pay12 k b (q 2 inb_S4x128x256_S1x128x256_2_0_0)) (k0_pay47 u), head v (k0_pay12 k b (q 3 inb_S4x128x256_S1x128x256_3_0_0)) (k0_pay59 u),
    head v' (k0_pay13 k b (q 0 inb_S4x128x256_S1x128x256_0_0_0)) (k0_pay23 u), head v' (k0_pay13 k b (q 1 inb_S4x128x256_S1x128x256_1_0_0)) (k0_pay36 u),
    head v' (k0_pay13 k b (q 2 inb_S4x128x256_S1x128x256_2_0_0)) (k0_pay51 u), head v' (k0_pay13 k b (q 3 inb_S4x128x256_S1x128x256_3_0_0)) (k0_pay63 u)]

/-- What a tile stores: the eight heads stacked, transposed and rounded. -/
theorem out_eq : out0_8 i x0 x1 x2 x3 x4 x5 x6 x7
    = truncf .bf16 (transpose S256x512 [1, 0] (concatenate S512x256 0 [⟨S64x256, heads i x0 x1 x2 x3 x4 x5 x6 x7 0⟩, ⟨S64x256, heads i x0 x1 x2 x3 x4 x5 x6 x7 1⟩,
        ⟨S64x256, heads i x0 x1 x2 x3 x4 x5 x6 x7 2⟩, ⟨S64x256, heads i x0 x1 x2 x3 x4 x5 x6 x7 3⟩, ⟨S64x256, heads i x0 x1 x2 x3 x4 x5 x6 x7 4⟩,
        ⟨S64x256, heads i x0 x1 x2 x3 x4 x5 x6 x7 5⟩, ⟨S64x256, heads i x0 x1 x2 x3 x4 x5 x6 x7 6⟩, ⟨S64x256, heads i x0 x1 x2 x3 x4 x5 x6 x7 7⟩]
        concatenates_S64x256_S64x256_S64x256_S64x256_S64x256_S64x256_S64x256_S64x256_S512x256_d0) transposes_S512x256_p1_0_S256x512) bitsLt_bf16_f32 := by
  unfold out0_8 k0_pay85 k0_pay84 k0_pay83 k0_pay82 k0_pay81 k0_pay80 k0_pay79 k0_pay78 k0_pay77 k0_pay76 k0_pay75 k0_pay74 k0_pay73 k0_pay72 k0_pay71 k0_pay70
  simp (disch := decide) only [View.canon_cons_unit_lit', View.ld_unit_lit']
  rw [store_eq, head_zero, head_one, head_two, head_three, head_four, head_five, head_six, head_seven, first_one, first_two, first_three, second_one, second_two,
    second_three]
  rfl

end Tile

end Cert.Kernel6Ideal.Win

end
-- ==== Proof.WinRef.lean ====
module

public import proofs.«01_k».proof.Proof.Gen.Reference6Ideal.Read
public import proofs.«01_k».proof.Proof.Soft
public import proofs.«01_k».proof.Proof.WinSoft
public import Idealize.ShloMosaic.Lib.Pointwise

@[expose] public section

set_option maxRecDepth 16384

noncomputable section

namespace Cert.Reference6Ideal.Win

open Cert.Reference6Ideal Cert.Reference6Ideal.Gen Cert.Reference6Ideal.Read Idealize.ShloMosaic
open Cert.Attn (dots)
open Cert.Window (avg weight total)

variable (x0 : Vec Ideal S8 .f32) (x1 : Vec Ideal S4x128x16384 .bf16) (x2 : Vec Ideal S16384x128 .bf16) (x3 : Vec Ideal S128x16384 .bf16)

/-- A score of key head `h` and pair `t`: the inner product of a query and a key over the two halves and the 32 channels of that head. -/
theorem score_apply (h : Fin 2) (t : Fin 4) (p k : Fin 16384) : val_main_v6 (F := Ideal) x1 x2 (ix4 h t p k)
    = ∑ x : Fin 2, ∑ d : Fin 32, x1 (ix3 t ⟨x * 64 + h * 32 + d, by omega⟩ p) * x2 (ix2 k ⟨x * 64 + h * 32 + d, by omega⟩) := by
  unfold val_main_v6 val_main_v1 val_main_v3 val_main_v0 val_main_v2
  pointwise [dot_S4x2x2x32x16384_S16384x2x2x32_S2x4x16384x16384_13_13_04_0_2_2]

/-- With finite queries and keys it is the real inner product. -/
theorem score_real (hq : ∀ i, ∃ r : ℝ, x1 i = r) (hk : ∀ i, ∃ r : ℝ, x2 i = r) (h : Fin 2) (t : Fin 4) (p k : Fin 16384) :
    val_main_v6 (F := Ideal) x1 x2 (ix4 h t p k) = (dots h (fun d => x1 (ix3 t d p)) (fun d => x2 (ix2 k d)) : ℝ) := by
  rw [score_apply, dots, ← KernelIdeal.Attn.coe_sum]
  refine Finset.sum_congr rfl fun x _ => ?_
  rw [← KernelIdeal.Attn.coe_sum]
  refine Finset.sum_congr rfl fun d _ => ?_
  obtain ⟨a, ha⟩ := hq (ix3 t ⟨x * 64 + h * 32 + d, by omega⟩ p)
  obtain ⟨b, hb⟩ := hk (ix2 k ⟨x * 64 + h * 32 + d, by omega⟩)
  rw [ha, hb, EReal.coe_mul, EReal.toReal_coe, EReal.toReal_coe]

/-- The factor the scores are taken by: the natural logarithm of two. -/
theorem log_two (i : S2x4x16384x16384.Idx) : val_main_v8 (F := Ideal) i = (Real.log 2 : ℝ) := by
  rw [val_main_v8_apply, val_main_v7_apply, val_main_cst_apply]
  show Ideal.log (Ideal.ofBits .f32 0x40000000#32) = _
  rw [show Ideal.ofBits .f32 0x40000000#32 = ((2:ℝ) : EReal) by simp [Ideal.ofBits, Ideal.ieee, -EReal.coe_mul]; norm_num, Ideal.log_coe,
    if_neg (by norm_num)]

/-- Whether a key is within 128 of a query. -/
def near (p k : Fin 16384) : Bool := decide (k.val ≤ p.val + 128 ∧ p.val ≤ k.val + 128)

/-- The comparison of the distance of two small numbers with 128, as 32-bit integers. -/
theorem distance (a b : ℕ) (ha : a < 16384) (hb : b < 16384) :
    IntOp.cmpi .sle (IntOp.absi (IntOp.subi (BitVec.ofNat 32 a) (BitVec.ofNat 32 b))) 128#32
      = BitVec.ofBool (decide (a ≤ b + 128 ∧ b ≤ a + 128)) := by
  have h : ∀ n < 16384, (BitVec.ofNat 32 n).toInt = n := fun n hn => by
    rw [BitVec.toInt_ofNat']
    exact Int.bmod_eq_of_le (by omega) (by omega)
  have h1 : (BitVec.ofNat 32 a - BitVec.ofNat 32 b).toInt = (a : ℤ) - b := by
    rw [BitVec.toInt_sub, h a ha, h b hb]
    exact Int.bmod_eq_of_le (by omega) (by omega)
  have h2 : (IntOp.absi (BitVec.ofNat 32 a - BitVec.ofNat 32 b)).toInt = |(a : ℤ) - b| := by
    rw [IntOp.absi, BitVec.msb_eq_toInt, h1]
    by_cases hn : (a : ℤ) - b < 0
    · rw [if_pos (decide_eq_true hn), BitVec.toInt_neg, h1, abs_of_neg hn]
      exact Int.bmod_eq_of_le (by omega) (by omega)
    · rw [if_neg (by simpa using hn), h1, abs_of_nonneg (by omega)]
  refine congrArg BitVec.ofBool (decide_eq_decide.mpr ?_)
  change (IntOp.absi (BitVec.ofNat 32 a - BitVec.ofNat 32 b)).toInt ≤ 128 ↔ _
  rw [h2, abs_le]
  omega

/-- The mask at a query and a key. -/
theorem near_apply (p k : Fin 16384) : val_main_v18 (F := Ideal) (ix2 p k) = BitVec.ofBool (near p k) := by
  rw [near, ← distance _ _ k.isLt p.isLt]
  unfold val_main_v18 val_main_v17 val_main_v16 val_main_v15 val_main_v14 val_main_v13 val_main_v12 val_main_v11 val_main_v10 val_main_c
  pointwise []

/-- A score times `log 2` inside the window, minus infinity outside. -/
theorem masked_apply (h : Fin 2) (t : Fin 4) (p k : Fin 16384) (s : ℝ) (hs : val_main_v6 (F := Ideal) x1 x2 (ix4 h t p k) = s) :
    val_main_v19 (F := Ideal) x1 x2 (ix4 h t p k) = if near p k then ((s * Real.log 2 : ℝ) : EReal) else ⊥ := by
  have e : idx_main_call0_v1 (ix4 h t p k) = ix2 p k := by
    funext a; match a with | ⟨0, _⟩ => rfl | ⟨1, _⟩ => rfl
  rw [val_main_v19_apply, val_main_call0_v1_apply, e, near_apply, val_main_v9_apply, hs, log_two, val_main_call0_v2_apply, val_main_call0_v0_apply,
    val_main_cst_0_apply]
  change Scalar.select _ ((s : EReal) * (Real.log 2 : ℝ)) (Ideal.ofBits .f32 0xFF800000#32) = _
  rw [show Ideal.ofBits .f32 0xFF800000#32 = ⊥ by simp [Ideal.ofBits, Ideal.ieee], ← EReal.coe_mul]
  cases near p k <;> simp [Scalar.select]

/-- The sink of a head. -/
theorem sink_apply (h : Fin 2) (t : Fin 4) : val_main_v20 (F := Ideal) x0 (ix4 h t 0 0) = x0 (ix1 ⟨4 * h.val + t.val, by omega⟩) := by
  unfold val_main_v20
  pointwise []
  exact congrArg (fun n => x0 (ix1 n)) (Fin.ext (by show h.val * 4 + t.val = 4 * h.val + t.val; omega))

/-- What is subtracted from a query's scores is real. -/
theorem top_real (h : Fin 2) (t : Fin 4) (p : Fin 16384) (hs : ∀ k, val_main_v19 (F := Ideal) x1 x2 (ix4 h t p k) < ⊤) (sink : ℝ)
    (hsink : x0 (ix1 ⟨4 * h.val + t.val, by omega⟩) = sink) : ∃ M : ℝ, val_main_v24 (F := Ideal) x0 x1 x2 (ix4 h t p 0) = M := by
  have e22 : idx_main_v22 (ix4 h t p 0) = ix3 h t p := by
    funext a; match a with | ⟨0, _⟩ => rfl | ⟨1, _⟩ => rfl | ⟨2, _⟩ => rfl
  have e23 : idx_main_v23 (ix4 h t p 0) = ix4 h t 0 0 := by
    funext a; match a with | ⟨0, _⟩ => rfl | ⟨1, _⟩ => rfl | ⟨2, _⟩ => rfl | ⟨3, _⟩ => rfl
  have h21 : val_main_v21 (F := Ideal) x1 x2 (ix3 h t p) = Finset.fold max ⊥ (fun k : Fin 16384 => val_main_v19 (F := Ideal) x1 x2 (ix4 h t p k)) Finset.univ := by
    rw [show (⊥ : EReal) = Ideal.ofBits .f32 0xFF800000#32 by simp [Ideal.ofBits, Ideal.ieee]]
    unfold val_main_v21 val_main_cst_1
    generalize val_main_v19 (F := Ideal) x1 x2 = y
    pointwise []
  obtain ⟨M, hM⟩ := Cert.Window.top_real (Finset.univ : Finset (Fin 16384)) (fun k => val_main_v19 (F := Ideal) x1 x2 (ix4 h t p k)) hs sink
  refine ⟨M, ?_⟩
  rw [val_main_v24_apply, val_main_v22_apply, val_main_v23_apply, e22, e23, h21, sink_apply, hsink, ← hM]
  rfl

/-- A normalised weight: two to the score over the total of these inside the window and of the sink's. -/
theorem weight_real (h : Fin 2) (t : Fin 4) (p : Fin 16384) (s : Fin 16384 → ℝ)
    (hs : ∀ k, val_main_v6 (F := Ideal) x1 x2 (ix4 h t p k) = s k) (sink : ℝ) (hsink : x0 (ix1 ⟨4 * h.val + t.val, by omega⟩) = sink) (k : Fin 16384) :
    val_main_v35 (F := Ideal) x0 x1 x2 (ix4 h t p k) = ((weight (near p) s k / total (near p) s sink : ℝ) : EReal) := by
  have h19 : ∀ k, val_main_v19 (F := Ideal) x1 x2 (ix4 h t p k) = if near p k then ((s k * Real.log 2 : ℝ) : EReal) else ⊥ :=
    fun k => masked_apply x1 x2 h t p k (s k) (hs k)
  obtain ⟨M, hM⟩ := top_real x0 x1 x2 h t p (fun k => by
    rw [h19]
    split
    · exact EReal.coe_lt_top _
    · exact bot_lt_top) sink hsink
  have e25 : ∀ k, idx_main_v25 (ix4 h t p k) = ix4 h t p 0 := fun k => by
    funext a; match a with | ⟨0, _⟩ => rfl | ⟨1, _⟩ => rfl | ⟨2, _⟩ => rfl | ⟨3, _⟩ => rfl
  have e34 : idx_main_v34 (ix4 h t p k) = ix4 h t p 0 := by
    funext a; match a with | ⟨0, _⟩ => rfl | ⟨1, _⟩ => rfl | ⟨2, _⟩ => rfl | ⟨3, _⟩ => rfl
  have e29 : idx_main_v29 (ix4 h t p 0) = ix3 h t p := by
    funext a; match a with | ⟨0, _⟩ => rfl | ⟨1, _⟩ => rfl | ⟨2, _⟩ => rfl
  have e28 : ∀ k, idx_main_v28 (ix3 h t p) k = ix4 h t p k := fun k => by
    funext a; match a with | ⟨0, _⟩ => rfl | ⟨1, _⟩ => rfl | ⟨2, _⟩ => rfl | ⟨3, _⟩ => rfl
  have e30 : idx_main_v30 (ix4 h t p 0) = ix4 h t 0 0 := by
    funext a; match a with | ⟨0, _⟩ => rfl | ⟨1, _⟩ => rfl | ⟨2, _⟩ => rfl | ⟨3, _⟩ => rfl
  have h27 : ∀ k, val_main_v27 (F := Ideal) x0 x1 x2 (ix4 h t p k)
      = Ideal.exp ((if near p k then ((s k * Real.log 2 : ℝ) : EReal) else ⊥) - M) := fun k => by
    rw [val_main_v27_apply, val_main_v26_apply, val_main_v25_apply, e25, hM, h19]
    rfl
  have h32 : val_main_v32 (F := Ideal) x0 x1 x2 (ix4 h t p 0) = Ideal.exp ((sink : EReal) - M) := by
    rw [val_main_v32_apply, val_main_v31_apply, val_main_v30_apply, e30, sink_apply, hsink, hM]
    rfl
  have h28 : val_main_v28 (F := Ideal) x0 x1 x2 (ix3 h t p) = ∑ k, Ideal.exp ((if near p k then ((s k * Real.log 2 : ℝ) : EReal) else ⊥) - M) := by
    rw [val_main_v28_apply, val_main_cst_2_apply]
    simp only [e28, h27]
    show Ideal.ofBits .f32 0#32 + _ = _
    rw [show Ideal.ofBits .f32 0#32 = 0 by simp [Ideal.ofBits, Ideal.ieee], zero_add]
  rw [← Cert.Window.weight_exp (near p) s sink M k, val_main_v35_apply, val_main_v34_apply, e34, val_main_v33_apply, val_main_v29_apply, e29, h27, h28, h32]
  rfl

/-- The result at a query and a channel of a head. -/
theorem result_apply (h : Fin 2) (t : Fin 4) (e : Fin 64) (p : Fin 16384) (s : Fin 16384 → ℝ)
    (hs : ∀ k, val_main_v6 (F := Ideal) x1 x2 (ix4 h t p k) = s k) (sink : ℝ) (hsink : x0 (ix1 ⟨4 * h.val + t.val, by omega⟩) = sink) :
    val_main_v39 (F := Ideal) x0 x1 x2 x3 (ix2 p ⟨64 * (4 * h.val + t.val) + e.val, by omega⟩)
      = avg (near p) s sink fun k => x3 (ix2 ⟨64 * h.val + e.val, by omega⟩ k) := by
  have h39 : val_main_v39 (F := Ideal) x0 x1 x2 x3 (ix2 p ⟨64 * (4 * h.val + t.val) + e.val, by omega⟩)
      = ∑ k : Fin 16384, x3 (ix2 ⟨64 * h.val + e.val, by omega⟩ k) * val_main_v35 (F := Ideal) x0 x1 x2 (ix4 h t p k) := by
    unfold val_main_v39 val_main_v38 val_main_v37 val_main_v36 val_main_v5 val_main_v4
    generalize val_main_v35 (F := Ideal) x0 x1 x2 = y
    pointwise [dot_S2x64x16384_S2x4x16384x16384_S2x64x4x16384_2_3_1_12_0_0]
    exact Finset.sum_congr rfl fun k _ => congrArg (fun n => x3 (ix2 n k) * y (ix4 h t p k))
      (Fin.ext (by show h.val * 64 + e.val = 64 * h.val + e.val; omega))
  rw [h39]
  simp only [weight_real x0 x1 x2 h t p s hs sink hsink]
  rfl

end Cert.Reference6Ideal.Win

end
-- ==== Proof.WinFinal.lean ====
module

public import proofs.«01_k».proof.Proof.WinBlock
public import proofs.«01_k».proof.Proof.WinRef
public import proofs.«01_k».proof.Proof.Final
public import proofs.«01_k».proof.Defs
public import Idealize.ShloMosaic.Lib.Claim
public import Idealize.ShloMosaic.Lib.StableHlo.ReadAt

@[expose] public section

set_option maxRecDepth 16384

noncomputable section

namespace Cert.Kernel6Ideal.Win

open Cert.Kernel6Ideal Cert.Kernel6Ideal.Gen Idealize.ShloMosaic Idealize.ShloMosaic.TcCoe Idealize.SL.Sem
open Cert.Attn (dots finite_of_lt)
open Cert.KernelIdeal.Attn (IsReal)
open Cert.Window (avg masked)
open Idealize.ShloMosaic.Pipeline (Dat)

/-! ## A tile at a query and a channel -/

/-- Each head's sink, cut out of the row of the eight. -/
def sinks (u : FVec Ideal S1x8 .f32) : Fin 8 → FVec Ideal S1x1 .f32 :=
  ![k0_pay19 u, k0_pay32 u, k0_pay47 u, k0_pay59 u, k0_pay23 u, k0_pay36 u, k0_pay51 u, k0_pay63 u]

/-- A cut of one entry out of the row of eight. -/
theorem slice_apply (u : FVec Ideal S1x8 .f32) (n : ℕ) (hn : n < 8) (hs : S1x8.Slices ![0, n] S1x1) :
    extractStridedSlice S1x1 ![0, n] u hs (ix2 0 0) = u (ix2 0 ⟨n, hn⟩) := by
  pointwise []

/-- A head's sink is its entry of the row. -/
theorem sinks_apply (u : FVec Ideal S1x8 .f32) (h : Fin 8) : sinks u h (ix2 0 0) = u (ix2 0 h) := by
  match h with
  | 0 | 1 | 2 | 3 | 4 | 5 | 6 | 7 => exact slice_apply u _ (by decide) (by decide)

/-- The last step reads the stacked heads the other way round. -/
theorem flip_apply (y : FVec Ideal S512x256 .f32) (c : Fin 256) (n : Fin 512) :
    truncf (F := Ideal) .bf16 (transpose S256x512 [1, 0] y transposes_S512x256_p1_0_S256x512) bitsLt_bf16_f32 (ix2 c n) = y (ix2 n c) := by
  pointwise []

section Tile

variable (i : grid0.Coords) (x0 : Vec Ideal S1x8 .f32) (x1 : Vec Ideal S4x128x256 .bf16) (x2 : Vec Ideal S128x128 .bf16) (x3 : Vec Ideal S256x128 .bf16)
  (x4 x5 : Vec Ideal S128x128 .bf16) (x6 : Vec Ideal S128x256 .bf16) (x7 : Vec Ideal S128x128 .bf16)

/-- The queries of one pair. -/
def pair (t : Fin 4) : Vec Ideal S1x128x256 .bf16 :=
  View.ld x1 (Rect.unit (s := S4x128x256) ![t.val, 0, 0] S1x128x256.size (by intro a; fin_cases a <;> simp [S1x128x256, S4x128x256]))

/-- A pair's queries are those of the block. -/
theorem pair_apply (t : Fin 4) (d : Fin 128) (c : Fin 256) : pair x1 t (ix3 0 d c) = x1 (ix3 t d c) := by
  refine congrArg x1 ?_
  funext a
  match a with
  | ⟨0, _⟩ | ⟨1, _⟩ | ⟨2, _⟩ => exact Fin.ext ((Rect.idx_unit_val _ _ _ _ _).trans (by first | exact Nat.add_zero _ | exact Nat.zero_add _))

/-- A real score with the mask added is the score inside the window and minus infinity outside. -/
theorem masked_add (near : Fin 512 → Bool) (a : Fin 512 → ℝ) (r : Fin 512) : (a r : EReal) + (if near r then 0 else ⊥) = masked near a r := by
  unfold masked
  split
  · exact add_zero _
  · exact EReal.add_bot _

/-- The numbers of the heads against the first key head. -/
theorem first_number (t : Fin 4) : (⟨4 * (0 : Fin 2).val + t.val, by omega⟩ : Fin 8) = ![0, 1, 2, 3] t := by
  match t with
  | 0 | 1 | 2 | 3 => rfl

/-- The numbers of the heads against the second key head. -/
theorem second_number (t : Fin 4) : (⟨4 * (1 : Fin 2).val + t.val, by omega⟩ : Fin 8) = ![4, 5, 6, 7] t := by
  match t with
  | 0 | 1 | 2 | 3 => rfl

/-- The heads against the first key head. -/
theorem heads_first (t : Fin 4) : heads i x0 x1 x2 x3 x4 x5 x6 x7 (![0, 1, 2, 3] t)
    = head (k0_pay7 x5 x6 x7) (k0_pay12 (k0_pay2 x2 x3 x4) (k0_pay5 i) (pair x1 t)) (sinks (k0_pay4 x0) (![0, 1, 2, 3] t)) := by
  match t with
  | 0 | 1 | 2 | 3 => rfl

/-- The heads against the second key head. -/
theorem heads_second (t : Fin 4) : heads i x0 x1 x2 x3 x4 x5 x6 x7 (![4, 5, 6, 7] t)
    = head (k0_pay8 (k0_pay3 x5 x6 x7) k0_pay6) (k0_pay13 (k0_pay2 x2 x3 x4) (k0_pay5 i) (pair x1 t)) (sinks (k0_pay4 x0) (![4, 5, 6, 7] t)) := by
  match t with
  | 0 | 1 | 2 | 3 => rfl

variable (hi : (i 0).val < 64) (hq : IsReal x1) (hk : ∀ r d, ∃ a : ℝ, k0_pay2 x2 x3 x4 (ix2 r d) = a)

include hi hq hk

/-- A tile's head at a channel and a query is the average over the tile's places. -/
theorem heads_apply (h : Fin 2) (t : Fin 4) (sink : ℝ) (hsink : x0 (ix2 0 ⟨4 * h.val + t.val, by omega⟩) = sink) (e : Fin 64) (c : Fin 256) :
    heads i x0 x1 x2 x3 x4 x5 x6 x7 ⟨4 * h.val + t.val, by omega⟩ (ix2 e c)
      = avg (near (i 0).val c) (fun r => dots h (fun d => x1 (ix3 t d c)) (fun d => k0_pay2 x2 x3 x4 (ix2 r d))) sink
          fun r => k0_pay3 x5 x6 x7 (ix2 ⟨64 * h.val + e.val, by omega⟩ r) := by
  have hu : sinks (k0_pay4 x0) ⟨4 * h.val + t.val, by omega⟩ (ix2 0 0) = (sink : EReal) * (((Real.log 2)⁻¹ : ℝ) : EReal) := by
    rw [sinks_apply, logit_apply, hsink]
  have hqr : ∀ d, ∃ a : ℝ, pair x1 t (ix3 0 d c) = a := fun d => by
    rw [pair_apply]
    exact hq _
  match h, hu with
  | 0, hu =>
    have hs : ∀ r, k0_pay12 (k0_pay2 x2 x3 x4) (k0_pay5 i) (pair x1 t) (ix2 r c)
        = masked (near (i 0).val c) (fun r => dots 0 (fun d => x1 (ix3 t d c)) (fun d => k0_pay2 x2 x3 x4 (ix2 r d))) r := fun r => by
      rw [first_score _ _ _ _ _ hqr (hk r), bias_apply i hi, ← masked_add]
      simp only [pair_apply]
    have hh := head_avg (k0_pay7 x5 x6 x7) _ _ e c _ _ sink (fun k => by rw [first_values, dif_neg (by decide)]) hs hu
    have hv : ∀ r : Fin 512, k0_pay7 x5 x6 x7 (ix2 ⟨e.val, by omega⟩ r) = k0_pay3 x5 x6 x7 (ix2 ⟨64 * (0 : Fin 2).val + e.val, by omega⟩ r) := fun r => by
      rw [first_values, dif_pos e.isLt]
      exact congrArg (fun n => k0_pay3 x5 x6 x7 (ix2 n r)) (Fin.ext (Nat.zero_add _).symm)
    simp only [hv] at hh
    refine Eq.trans ?_ hh
    rw [first_number t, heads_first]
  | 1, hu =>
    have hs : ∀ r, k0_pay13 (k0_pay2 x2 x3 x4) (k0_pay5 i) (pair x1 t) (ix2 r c)
        = masked (near (i 0).val c) (fun r => dots 1 (fun d => x1 (ix3 t d c)) (fun d => k0_pay2 x2 x3 x4 (ix2 r d))) r := fun r => by
      rw [second_score _ _ _ _ _ hqr (hk r), bias_apply i hi, ← masked_add]
      simp only [pair_apply]
    have hh := head_avg (k0_pay8 (k0_pay3 x5 x6 x7) k0_pay6) _ _ e c _ _ sink (fun k => by rw [second_values, dif_neg (by decide)]) hs hu
    have hv : ∀ r : Fin 512, k0_pay8 (k0_pay3 x5 x6 x7) (k0_pay6 (F := Ideal)) (ix2 ⟨e.val, by omega⟩ r)
        = k0_pay3 x5 x6 x7 (ix2 ⟨64 * (1 : Fin 2).val + e.val, by omega⟩ r) := fun r => by
      rw [second_values, dif_pos e.isLt]
      rfl
    simp only [hv] at hh
    refine Eq.trans ?_ hh
    rw [second_number t, heads_second]

/-- What a tile stores at a query and a channel of a head. -/
theorem tile_apply (h : Fin 2) (t : Fin 4) (sink : ℝ) (hsink : x0 (ix2 0 ⟨4 * h.val + t.val, by omega⟩) = sink) (e : Fin 64) (c : Fin 256) :
    out0_8 i x0 x1 x2 x3 x4 x5 x6 x7 (ix2 c ⟨64 * (4 * h.val + t.val) + e.val, by omega⟩)
      = avg (near (i 0).val c) (fun r => dots h (fun d => x1 (ix3 t d c)) (fun d => k0_pay2 x2 x3 x4 (ix2 r d))) sink
          fun r => k0_pay3 x5 x6 x7 (ix2 ⟨64 * h.val + e.val, by omega⟩ r) := by
  rw [out_eq, flip_apply]
  exact (stack_apply (heads i x0 x1 x2 x3 x4 x5 x6 x7) ⟨4 * h.val + t.val, by omega⟩ e c).trans
    (heads_apply i x0 x1 x2 x3 x4 x5 x6 x7 hi hq hk h t sink hsink e c)

end Tile

/-! ## A tile of the whole -/

section Whole

variable (i : grid0.Coords) (x0 : Vec Ideal S1x8 .f32) (x1 : Vec Ideal S4x128x256 .bf16) (x2 : Vec Ideal S128x128 .bf16) (x3 : Vec Ideal S256x128 .bf16)
  (x4 x5 : Vec Ideal S128x128 .bf16) (x6 : Vec Ideal S128x256 .bf16) (x7 : Vec Ideal S128x128 .bf16)
  (a0 : Vec Ideal S8 .f32) (a1 : Vec Ideal S4x128x16384 .bf16) (a2 : Vec Ideal S16384x128 .bf16) (a3 : Vec Ideal S128x16384 .bf16)

/-- What a tile stores is the reference's result at the tile's place, when the tile's blocks are those places of the arrays. Of the first tile's
block before it and of the last tile's block after it only that they hold keys of the array is used. -/
theorem point (n : ℕ) (hn : n < 64) (hi : (i 0).val = n)
    (h0 : ∀ h, x0 (ix2 0 h) = a0 (ix1 h)) (h1 : ∀ t d c, x1 (ix3 t d c) = a1 (ix3 t d ⟨256 * n + c.val, by omega⟩))
    (h2 : ∀ r d, x2 (ix2 r d) = a2 (ix2 ⟨128 * (2 * n - 1) + r.val, by omega⟩ d))
    (h3 : ∀ r d, x3 (ix2 r d) = a2 (ix2 ⟨256 * n + r.val, by omega⟩ d))
    (h4 : ∀ r d, x4 (ix2 r d) = a2 (ix2 ⟨128 * min (2 * (n + 1)) 127 + r.val, by omega⟩ d))
    (h5 : ∀ e r, x5 (ix2 e r) = a3 (ix2 e ⟨128 * (2 * n - 1) + r.val, by omega⟩))
    (h6 : ∀ e r, x6 (ix2 e r) = a3 (ix2 e ⟨256 * n + r.val, by omega⟩))
    (h7 : ∀ e r, x7 (ix2 e r) = a3 (ix2 e ⟨128 * min (2 * (n + 1)) 127 + r.val, by omega⟩))
    (f0 : IsReal a0) (f1 : IsReal a1) (f2 : IsReal a2) (c : Fin 256) (l : Fin 512) :
    out0_8 i x0 x1 x2 x3 x4 x5 x6 x7 (ix2 c l)
      = Cert.Reference6Ideal.Read.val_main_v39 (F := Ideal) a0 a1 a2 a3 (ix2 ⟨256 * n + c.val, by omega⟩ l) := by
  obtain ⟨h, t, e, rfl⟩ : ∃ (h : Fin 2) (t : Fin 4) (e : Fin 64), l = ⟨64 * (4 * h.val + t.val) + e.val, by omega⟩ :=
    ⟨⟨l.val / 256, by omega⟩, ⟨l.val / 64 % 4, by omega⟩, ⟨l.val % 64, by omega⟩, Fin.ext (by dsimp only; omega)⟩
  have hkey : ∀ (r : Fin 512) (k : Fin 16384), k.val + 128 = 256 * n + r.val → ∀ d, k0_pay2 x2 x3 x4 (ix2 r d) = a2 (ix2 k d) := fun r k hrk d => by
    rw [keys_apply]
    split
    · rw [h2]; exact congrArg (fun q => a2 (ix2 q d)) (Fin.ext (by dsimp only; omega))
    · split
      · rw [h3]; exact congrArg (fun q => a2 (ix2 q d)) (Fin.ext (by dsimp only; omega))
      · rw [h4]; exact congrArg (fun q => a2 (ix2 q d)) (Fin.ext (by dsimp only; omega))
  have hval : ∀ (r : Fin 512) (k : Fin 16384), k.val + 128 = 256 * n + r.val → ∀ q, k0_pay3 x5 x6 x7 (ix2 q r) = a3 (ix2 q k) := fun r k hrk q => by
    rw [values_apply]
    split
    · rw [h5]; exact congrArg (fun p => a3 (ix2 q p)) (Fin.ext (by dsimp only; omega))
    · split
      · rw [h6]; exact congrArg (fun p => a3 (ix2 q p)) (Fin.ext (by dsimp only; omega))
      · rw [h7]; exact congrArg (fun p => a3 (ix2 q p)) (Fin.ext (by dsimp only; omega))
  have hk : ∀ r d, ∃ a : ℝ, k0_pay2 x2 x3 x4 (ix2 r d) = a := fun r d => by
    rw [keys_apply]
    split
    · rw [h2]; exact f2 _
    · split
      · rw [h3]; exact f2 _
      · rw [h4]; exact f2 _
  have hq : IsReal x1 := fun j => by
    have hj : j = ix3 (j 0) (j 1) (j 2) := by funext a; match a with | ⟨0, _⟩ => rfl | ⟨1, _⟩ => rfl | ⟨2, _⟩ => rfl
    rw [hj]
    exact ⟨_, (h1 (j 0) (j 1) (j 2)).trans (f1 _).choose_spec⟩
  obtain ⟨sink, hsink⟩ := f0 (ix1 ⟨4 * h.val + t.val, by omega⟩)
  rw [tile_apply i x0 x1 x2 x3 x4 x5 x6 x7 (by omega) hq hk h t sink ((h0 _).trans hsink) e c,
    Cert.Reference6Ideal.Win.result_apply a0 a1 a2 a3 h t e ⟨256 * n + c.val, by omega⟩
      (fun k => dots h (fun d => a1 (ix3 t d ⟨256 * n + c.val, by omega⟩)) (fun d => a2 (ix2 k d)))
      (Cert.Reference6Ideal.Win.score_real a1 a2 f1 f2 h t _) sink hsink, hi]
  refine Cert.Window.avg_window n hn _ _ _ _ _ _ sink ?_ ?_ ?_ ?_ ?_
  · intro r hr
    exact decide_eq_false (by omega)
  · intro r k hrk
    refine decide_eq_decide.mpr ?_
    dsimp only
    omega
  · intro r k hrk
    simp only [h1, hkey r k hrk]
  · intro r k hrk
    exact hval r k hrk _
  · intro k hk
    have := of_decide_eq_true hk
    dsimp only at this
    omega

end Whole

/-! ## The run -/

variable (m : (ℓ : Loc nD τ sig) → Buf (Elt Ideal) ℓ)

/-- Which block of each array a grid point takes. -/
theorem idx : ∀ t : Fin cfg0.N, win0_0.index t = ![0, 0] ∧ win0_1.index t = ![0, 0, t.val] ∧ win0_2.index t = ![2 * t.val - 1, 0]
    ∧ win0_3.index t = ![t.val, 0] ∧ win0_4.index t = ![min (2 * (t.val + 1)) 127, 0] ∧ win0_5.index t = ![0, 2 * t.val - 1]
    ∧ win0_6.index t = ![0, t.val] ∧ win0_7.index t = ![0, min (2 * (t.val + 1)) 127] ∧ win0_8.index t = ![t.val, 0]
    ∧ (grid0.coords t 0).val = t.val ∧ t.val < 64 :=
  (by decide +kernel : ∀ t : Fin grid0.N, _)

/-- The side conditions of the finiteness predicate. -/
theorem finite_facts : Cert.Pre_finite_scores.Facts where
  bcast_S_S8 := by decide
  bitsLt_bf16_f32 := by decide
  bcast_S_S4x128x16384 := by decide
  bcast_S_S16384x128 := by decide

/-- The finite arguments, from the precondition. -/
theorem args_finite (hm : letI := finite_facts; Cert.Pre_Kernel6Ideal_finite_scores m) (c : Dev nD) :
    IsReal (ι := S8.Idx) (m ((c : Thread nD τ).loc main_arg0))
    ∧ IsReal (ι := S4x128x16384.Idx) (m ((c : Thread nD τ).loc main_arg1))
    ∧ IsReal (ι := S16384x128.Idx) (m ((c : Thread nD τ).loc main_arg2)) := by
  obtain ⟨h0, h1, h2⟩ := hm c
  exact ⟨fun i => finite_of_lt _ (congrFun h0 i), fun i => finite_of_lt _ (congrFun h1 i), fun i => finite_of_lt _ (congrFun h2 i)⟩

/-- The output array after the run is the reference's result. -/
theorem final (hm : letI := finite_facts; Cert.Pre_Kernel6Ideal_finite_scores m) (c : Dev nD) :
    (dats m 0 c).arrAt 8 cfg0.N = Cert.Reference6Ideal.Read.val_main_v39 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 8 _ (by decide +kernel) fun t _ y => ?_
  blk_simp
  rw [after0_8]
  obtain ⟨f0, f1, f2⟩ := args_finite m hm c
  obtain ⟨e0, e1, e2, e3, e4, e5, e6, e7, e8, ec, ht⟩ := idx t
  have hy : y = ix2 (y 0) (y 1) := by funext a; match a with | ⟨0, _⟩ => rfl | ⟨1, _⟩ => rfl
  have hy0 : (y 0).val < 256 := (y 0).isLt
  have hy1 : (y 1).val < 512 := (y 1).isLt
  have hemb : ((cfg0.win 8).blk t).view.emb y = ix2 (⟨256 * t.val + (y 0).val, by omega⟩ : Fin 16384) (⟨(y 1).val, hy1⟩ : Fin 512) := by
    blk_ext [idx t]
  rw [hemb]
  refine Eq.trans (congrArg _ hy) ?_
  refine point (grid0.coords t) (iblk m c 0 t) (iblk m c 1 t) (iblk m c 2 t) (iblk m c 3 t) (iblk m c 4 t) (iblk m c 5 t) (iblk m c 6 t) (iblk m c 7 t) _ _ _ _
    t.val ht ec ?_ ?_ ?_ ?_ ?_ ?_ ?_ ?_ f0 f1 f2 (y 0) (y 1)
  · intro h
    unfold iblk V
    after_reads_at
    have he : ((cfg0.win 0).blk t).view.emb (ix2 0 h) = ix2 (0 : Fin 1) (h : Fin 8) := by blk_ext [idx t]
    exact congrArg (fun j : S1x8.Idx => m (c.tc.loc main_arg0) (ix1 (j 1))) he
  · intro n d q; blk_ext! [iblk, V, idx t]
  · intro r d; blk_ext! [iblk, V, idx t]
  · intro r d; blk_ext! [iblk, V, idx t]
  · intro r d; blk_ext! [iblk, V, idx t]
  · intro e r; blk_ext! [iblk, V, idx t]
  · intro e r; blk_ext! [iblk, V, idx t]
  · intro e r; blk_ext! [iblk, V, idx t]

end Cert.Kernel6Ideal.Win

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Final
public import proofs.«01_k».proof.Proof.FfnFinal
public import proofs.«01_k».proof.Proof.MixFinal
public import proofs.«01_k».proof.Proof.ProjFinal
public import proofs.«01_k».proof.Proof.Table
public import proofs.«01_k».proof.Proof.WinFinal
public import Idealize.ShloMosaic.Lib.Claim
public import Idealize.ShloMosaic.Adequacy
public import Idealize.ShloMosaic.Init

@[expose] public section

noncomputable section

namespace Cert.Proof

open Idealize.ShloMosaic Idealize.SL.Sem

/-- The reference runs, keeps its arguments and leaves every semaphore at zero. -/
theorem reference_frame : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run m ρ)

/-- The differential attention: kernel and reference leave the same array over the extended reals. -/
theorem attention : algebraic_KernelIdeal_ReferenceIdeal_pre_finite (hKernelIdeal := Cert.KernelIdeal.Gen.facts)
    (hReferenceIdeal := Cert.ReferenceIdeal.Gen.facts) (hPre_finite := Cert.Attn.finite_facts) := by
  intro m g m' g' hm ha
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨h0, h1, h2, h3, h4⟩ := ha c
  rw [Cert.ReferenceIdeal.Read.val_main_v63_eq, h0, h1, h2, h3, h4]
  exact (Cert.KernelIdeal.Attn.final m hm c).symm

/-- The feed-forward's reference runs, keeps its arguments and leaves every semaphore at zero. -/
theorem reference2_frame : quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run m ρ)

/-- The gated convolutional feed-forward with its layer norm: kernel and reference leave the same array over the extended reals. -/
theorem feedForward : algebraic_Kernel2Ideal_Reference2Ideal (hKernel2Ideal := Cert.Kernel2Ideal.Gen.facts)
    (hReference2Ideal := Cert.Reference2Ideal.Gen.facts) := by
  intro m g m' g' _ ha
  refine ⟨fun c => (Cert.Kernel2Ideal.Gen.dats m 0 c).arrAt 8 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run m' g')
  obtain ⟨h0, h1, h2, h3, h4, h5⟩ := ha c
  rw [Cert.Reference2Ideal.Read.val_main_v59_eq, h0, h1, h2, h3, h4, h5]
  exact (Cert.Kernel2Ideal.Ffn.final m c).symm

/-- The branch merge's reference runs, keeps its arguments and leaves every semaphore at zero. -/
theorem reference3_frame : quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run m ρ)

/-- The gated merge of the three branches with its layer norm: kernel and reference leave the same array over the extended reals. -/
theorem merge : algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Gen.dats m 0 c).arrAt 14 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run m' g')
  obtain ⟨h0, h1, h2, h3, h4, h5, h6, h7, h8, h9, h10, h11⟩ := ha c
  rw [Cert.Reference3Ideal.Read.val_main_v72_eq, h0, h1, h2, h3, h4, h5, h6, h7, h8, h9, h10, h11]
  exact (Cert.Kernel3Ideal.Mix.final m c).symm

/-- The projection's reference runs, keeps its arguments and leaves every semaphore at zero. -/
theorem reference4_frame : quiescent_Reference4Ideal (hReference4Ideal := Cert.Reference4Ideal.Gen.facts) := fun m ρ _ =>
  (θ_run Cert.Reference4Ideal.defs _ _).mono
    (fun r h => ⟨fun c => (h c).2.2.2.2.2.2.2.2.2, sem_eq_zero_of_no_sems (by decide) r.2⟩) (Cert.Reference4Ideal.Value.run m ρ)

set_option maxHeartbeats 1600000 in
/-- The projection of the normalised sequence with its rotations: kernel and reference leave the same nine arrays over the extended reals. -/
theorem projection : algebraic_Kernel4Ideal_Reference4Ideal (hKernel4Ideal := Cert.Kernel4Ideal.Gen.facts)
    (hReference4Ideal := Cert.Reference4Ideal.Gen.facts) := by
  intro m g m' g' _ ha
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    Cert.Kernel4Ideal.Value.run_blocks m g, ?_⟩
  refine (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.Reference4Ideal.Value.run m' g')
  all_goals obtain ⟨h0, h1, h2, h3, h4, h5, h6, h7⟩ := ha c
  · rw [Cert.Reference4Ideal.Read.val_main_v23_eq, h0, h1, h2]
    exact (Cert.Kernel4Ideal.Proj.final9 m c).symm
  · rw [Cert.Reference4Ideal.Read.val_main_v100_eq, h0, h1, h2, h3]
    exact (Cert.Kernel4Ideal.Proj.final10 m c).symm
  · rw [Cert.Reference4Ideal.Read.val_main_v101_eq, h0, h1, h2, h3]
    exact (Cert.Kernel4Ideal.Proj.final11 m c).symm
  · rw [Cert.Reference4Ideal.Read.val_main_v102_eq, h0, h1, h2, h3, h4, h5]
    exact (Cert.Kernel4Ideal.Proj.final12 m c).symm
  · rw [Cert.Reference4Ideal.Read.val_main_v103_eq, h0, h1, h2, h3, h4, h5]
    exact (Cert.Kernel4Ideal.Proj.final13 m c).symm
  · rw [Cert.Reference4Ideal.Read.val_main_v104_eq, h0, h1, h2, h3, h6, h7]
    exact (Cert.Kernel4Ideal.Proj.final14 m c).symm
  · rw [Cert.Reference4Ideal.Read.val_main_v105_eq, h0, h1, h2, h3]
    exact (Cert.Kernel4Ideal.Proj.final15 m c).symm
  · rw [Cert.Reference4Ideal.Read.val_main_v106_eq, h0, h1, h2, h3, h6, h7]
    exact (Cert.Kernel4Ideal.Proj.final16 m c).symm
  · rw [Cert.Reference4Ideal.Read.val_main_v107_eq, h0, h1, h2, h3]
    exact (Cert.Kernel4Ideal.Proj.final17 m c).symm

/-- The rotary tables' reference runs, keeps its arguments and leaves every semaphore at zero. -/
theorem reference5_frame : quiescent_Reference5Ideal (hReference5Ideal := Cert.Reference5Ideal.Gen.facts) := fun m ρ _ =>
  (θ_run Cert.Reference5Ideal.defs _ _).mono
    (fun r h => ⟨fun c => (h c).2.2.2.2, sem_eq_zero_of_no_sems (by decide) r.2⟩) (Cert.Reference5Ideal.Value.run m ρ)

/-- The rotary tables: kernel and reference leave the same four arrays over the extended reals. -/
theorem tables : algebraic_Kernel5Ideal_Reference5Ideal (hKernel5Ideal := Cert.Kernel5Ideal.Gen.facts)
    (hReference5Ideal := Cert.Reference5Ideal.Gen.facts) := by
  intro m g m' g' _ ha
  refine ⟨fun c => (Cert.Kernel5Ideal.Gen.dats m 0 c).arrAt 2 Cert.Kernel5Ideal.cfg0.N,
    fun c => (Cert.Kernel5Ideal.Gen.dats m 0 c).arrAt 3 Cert.Kernel5Ideal.cfg0.N,
    fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks m g, ?_⟩
  refine (θ_run Cert.Reference5Ideal.defs _ _).mono (fun r h c => ⟨(h c).1.trans ?_, (h c).2.1.trans ?_, (h c).2.2.1.trans ?_, (h c).2.2.2.1.trans ?_, (h c).2.2.2.2⟩) (Cert.Reference5Ideal.Value.run m' g')
  · rw [Cert.Reference5Ideal.Read.val_main_v19_eq, ha c]
    exact (Cert.Kernel5Ideal.Table.final2 m c).symm
  · rw [Cert.Reference5Ideal.Read.val_main_v22_eq, ha c]
    exact (Cert.Kernel5Ideal.Table.final3 m c).symm
  · rw [Cert.Reference5Ideal.Read.val_main_v23_eq, ha c]
    exact (Cert.Kernel5Ideal.Table.final4 m c).symm
  · rw [Cert.Reference5Ideal.Read.val_main_v24_eq, ha c]
    exact (Cert.Kernel5Ideal.Table.final5 m c).symm

/-- The windowed attention's reference runs, keeps its arguments and leaves every semaphore at zero. -/
theorem reference6_frame : quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run m ρ)

/-- The windowed attention with its sinks: kernel and reference leave the same array over the extended reals. -/
theorem window : algebraic_Kernel6Ideal_Reference6Ideal_pre_finite_scores (hKernel6Ideal := Cert.Kernel6Ideal.Gen.facts)
    (hReference6Ideal := Cert.Reference6Ideal.Gen.facts) (hPre_finite_scores := Cert.Kernel6Ideal.Win.finite_facts) := by
  intro m g m' g' hm ha
  refine ⟨fun c => (Cert.Kernel6Ideal.Gen.dats m 0 c).arrAt 8 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run m' g')
  obtain ⟨h0, h1, h2, h3⟩ := ha c
  rw [Cert.Reference6Ideal.Read.val_main_v39_eq, h0, h1, h2, h3]
  exact (Cert.Kernel6Ideal.Win.final m hm c).symm

/-- The windowed attention's two rounded constants, by the names they stand for. -/
theorem window_names : preserves_Kernel6_Kernel6Ideal :=
  ⟨IdealRules.named_const.statement Cert.Kernel6Ideal.κ "log2e" .f32 0x3FB8AA3B#32 (((Real.log 2)⁻¹ : ℝ) : EReal) rfl,
    IdealRules.named_const.statement Cert.Kernel6Ideal.κ "mask" .f32 0xF149F2CA#32 ⊥ rfl⟩

/-- Everything claimed of the six calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Attn.finite_facts, Cert.Kernel6Ideal.Win.finite_facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, fun m ρ _ => Cert.Kernel6Ideal.Gen.frame m ρ,
  reference6_frame, fun m ρ _ => reference6_frame m ρ trivial,
  trivial, attention, trivial, feedForward, trivial, merge, trivial, projection, trivial, tables, window_names, window⟩

end Cert.Proof

end
